-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn {F : FTy → Type} [FloatOps F] (main_arg0 : FVec F S512x256 .bf16) (main_arg1 : FVec F S256x8 .bf16) (main_arg2 : IVec S512x1 32) (main_arg3 : FVec F S2x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x8 .bf16 := Host.absf main_arg1
  let main_cst_0 : FVec F S_ .bf16 := constant S_ .bf16 0x7F80#16
  let main_v5 : FVec F S256x8 .bf16 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  main_v8
-- ==== Pre_finite_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn {F : FTy → Type} [FloatOps F] (main_arg0 : FVec F S512x256 .bf16) (main_arg1 : FVec F S256x8 .bf16) (main_arg2 : IVec S512x1 32) (main_arg3 : FVec F S8x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x8 .bf16 := Host.absf main_arg1
  let main_cst_0 : FVec F S_ .bf16 := constant S_ .bf16 0x7F80#16
  let main_v5 : FVec F S256x8 .bf16 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  main_v8
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S4x128x512 : Shape := ⟨3, ![4, 128, 512]⟩
abbrev S128x512 : Shape := ⟨2, ![128, 512]⟩
abbrev S4 : Shape := ⟨1, ![4]⟩
abbrev S_ : Shape := ⟨0, ![]⟩
abbrev S512x8 : Shape := ⟨2, ![512, 8]⟩
abbrev S512 : Shape := ⟨1, ![512]⟩
abbrev S1x8 : Shape := ⟨2, ![1, 8]⟩
abbrev S1x256x512 : Shape := ⟨3, ![1, 256, 512]⟩
abbrev S128x256 : Shape := ⟨2, ![128, 256]⟩
abbrev S1x128x512 : Shape := ⟨3, ![1, 128, 512]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .bf16⟩
  | .local _ .vmem, ⟨0, _⟩ => ⟨S512x256, .bf16⟩
  | .local _ .vmem, ⟨1, _⟩ => ⟨S256x8, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | .local _ .vmem, ⟨7, _⟩ => ⟨S4x128x512, .bf16⟩
  | .local _ .vmem, ⟨8, _⟩ => ⟨S128x512, .bf16⟩
  | .local _ .vmem, ⟨9, _⟩ => ⟨S4x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c0_i32 : BitVec 32 := 0#32
  let v5 : BitVec 32 := Scalar.addi v4 c0_i32
  let c4_i32_1 : BitVec 32 := 4#32
  let v6 : BitVec 32 := Scalar.remsi v5 c4_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c1_i32_6 : BitVec 32 := 1#32
  let v10 : BitVec 32 := Scalar.addi v9 c1_i32_6
  let c4_i32_7 : BitVec 32 := 4#32
  let v11 : BitVec 32 := Scalar.remsi v10 c4_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v14 : BitVec 32 := Scalar.addi v2 c1_i32_11
  let c2_i32 : BitVec 32 := 2#32
  let v15 : BitVec 32 := Scalar.addi v14 c2_i32
  let c4_i32_12 : BitVec 32 := 4#32
  let v16 : BitVec 32 := Scalar.remsi v15 c4_i32_12
  let c1_i32_14 : BitVec 32 := 1#32
  let v17 : BitVec 32 := Scalar.muli v16 c1_i32_14
  let v18 : BitVec 32 := Scalar.addi c0_i32_15 v17
  v18.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_40 : BitVec 32 := 0#32
  let v83 : BitVec 1 := Scalar.cmpi .ne v2 c0_i32_40
  let v84 : BitVec 32 := Scalar.extui v83
  let c0_i32_41 : BitVec 32 := 0#32
  let v85 : BitVec 1 := Scalar.cmpi .ne v84 c0_i32_41
  v85

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_121 : BitVec 32 := 0#32
  let c0_i32_122 : BitVec 32 := 0#32
  ![v2.toNat, 0, 0]
def k0_dev4 : Nat :=
  let c0_i32_120 : BitVec 32 := 0#32
  let c0_i32_118 : BitVec 32 := 0#32
  let c1_i32_119 : BitVec 32 := 1#32
  let v207 : BitVec 32 := Scalar.muli c0_i32_118 c1_i32_119
  let v208 : BitVec 32 := Scalar.addi c0_i32_120 v207
  v208.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v95 : BitVec 1 := Scalar.cmpi .ne v2 c1_i32_46
  let v96 : BitVec 32 := Scalar.extui v95
  let c0_i32_47 : BitVec 32 := 0#32
  let v97 : BitVec 1 := Scalar.cmpi .ne v96 c0_i32_47
  v97

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_120 : BitVec 32 := 0#32
  let c0_i32_121 : BitVec 32 := 0#32
  ![v2.toNat, 0, 0]
def k0_dev5 : Nat :=
  let c0_i32_119 : BitVec 32 := 0#32
  let c1_i32_117 : BitVec 32 := 1#32
  let c1_i32_118 : BitVec 32 := 1#32
  let v207 : BitVec 32 := Scalar.muli c1_i32_117 c1_i32_118
  let v208 : BitVec 32 := Scalar.addi c0_i32_119 v207
  v208.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v107 : BitVec 1 := Scalar.cmpi .ne v2 c2_i32_52
  let v108 : BitVec 32 := Scalar.extui v107
  let c0_i32_53 : BitVec 32 := 0#32
  let v109 : BitVec 1 := Scalar.cmpi .ne v108 c0_i32_53
  v109

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_120 : BitVec 32 := 0#32
  let c0_i32_121 : BitVec 32 := 0#32
  ![v2.toNat, 0, 0]
def k0_dev6 : Nat :=
  let c0_i32_119 : BitVec 32 := 0#32
  let c2_i32_117 : BitVec 32 := 2#32
  let c1_i32_118 : BitVec 32 := 1#32
  let v207 : BitVec 32 := Scalar.muli c2_i32_117 c1_i32_118
  let v208 : BitVec 32 := Scalar.addi c0_i32_119 v207
  v208.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_58 : BitVec 32 := 3#32
  let v119 : BitVec 1 := Scalar.cmpi .ne v2 c3_i32_58
  let v120 : BitVec 32 := Scalar.extui v119
  let c0_i32_59 : BitVec 32 := 0#32
  let v121 : BitVec 1 := Scalar.cmpi .ne v120 c0_i32_59
  v121

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_120 : BitVec 32 := 0#32
  let c0_i32_121 : BitVec 32 := 0#32
  ![v2.toNat, 0, 0]
def k0_dev7 : Nat :=
  let c0_i32_119 : BitVec 32 := 0#32
  let c3_i32_117 : BitVec 32 := 3#32
  let c1_i32_118 : BitVec 32 := 1#32
  let v207 : BitVec 32 := Scalar.muli c3_i32_117 c1_i32_118
  let v208 : BitVec 32 := Scalar.addi c0_i32_119 v207
  v208.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_83 : BitVec 32 := 0#32
  let v156 : BitVec 1 := Scalar.cmpi .ne v2 c0_i32_83
  let v157 : BitVec 32 := Scalar.extui v156
  let c0_i32_84 : BitVec 32 := 0#32
  let v158 : BitVec 1 := Scalar.cmpi .ne v157 c0_i32_84
  v158

def k0_off9 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_dev8 : Nat :=
  let c0_i32_118 : BitVec 32 := 0#32
  let c0_i32_116 : BitVec 32 := 0#32
  let c1_i32_117 : BitVec 32 := 1#32
  let v204 : BitVec 32 := Scalar.muli c0_i32_116 c1_i32_117
  let v205 : BitVec 32 := Scalar.addi c0_i32_118 v204
  v205.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v159 : BitVec 1 := Scalar.cmpi .ne v2 c1_i32_85
  let v160 : BitVec 32 := Scalar.extui v159
  let c0_i32_86 : BitVec 32 := 0#32
  let v161 : BitVec 1 := Scalar.cmpi .ne v160 c0_i32_86
  v161

def k0_off11 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_dev9 : Nat :=
  let c0_i32_118 : BitVec 32 := 0#32
  let c1_i32_116 : BitVec 32 := 1#32
  let c1_i32_117 : BitVec 32 := 1#32
  let v204 : BitVec 32 := Scalar.muli c1_i32_116 c1_i32_117
  let v205 : BitVec 32 := Scalar.addi c0_i32_118 v204
  v205.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v162 : BitVec 1 := Scalar.cmpi .ne v2 c2_i32_87
  let v163 : BitVec 32 := Scalar.extui v162
  let c0_i32_88 : BitVec 32 := 0#32
  let v164 : BitVec 1 := Scalar.cmpi .ne v163 c0_i32_88
  v164

def k0_off13 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_dev10 : Nat :=
  let c0_i32_118 : BitVec 32 := 0#32
  let c2_i32_116 : BitVec 32 := 2#32
  let c1_i32_117 : BitVec 32 := 1#32
  let v204 : BitVec 32 := Scalar.muli c2_i32_116 c1_i32_117
  let v205 : BitVec 32 := Scalar.addi c0_i32_118 v204
  v205.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_89 : BitVec 32 := 3#32
  let v165 : BitVec 1 := Scalar.cmpi .ne v2 c3_i32_89
  let v166 : BitVec 32 := Scalar.extui v165
  let c0_i32_90 : BitVec 32 := 0#32
  let v167 : BitVec 1 := Scalar.cmpi .ne v166 c0_i32_90
  v167

def k0_off15 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_dev11 : Nat :=
  let c0_i32_118 : BitVec 32 := 0#32
  let c3_i32_116 : BitVec 32 := 3#32
  let c1_i32_117 : BitVec 32 := 1#32
  let v204 : BitVec 32 := Scalar.muli c3_i32_116 c1_i32_117
  let v205 : BitVec 32 := Scalar.addi c0_i32_118 v204
  v205.toNat
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_107 : BitVec 32 := 0#32
  let v192 : BitVec 1 := Scalar.cmpi .ne v2 c0_i32_107
  let v193 : BitVec 32 := Scalar.extui v192
  let c0_i32_108 : BitVec 32 := 0#32
  let v194 : BitVec 1 := Scalar.cmpi .ne v193 c0_i32_108
  v194

def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_120 : BitVec 32 := 0#32
  let c0_i32_121 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v195 : BitVec 1 := Scalar.cmpi .ne v2 c1_i32_109
  let v196 : BitVec 32 := Scalar.extui v195
  let c0_i32_110 : BitVec 32 := 0#32
  let v197 : BitVec 1 := Scalar.cmpi .ne v196 c0_i32_110
  v197

def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_111 : BitVec 32 := 2#32
  let v198 : BitVec 1 := Scalar.cmpi .ne v2 c2_i32_111
  let v199 : BitVec 32 := Scalar.extui v198
  let c0_i32_112 : BitVec 32 := 0#32
  let v200 : BitVec 1 := Scalar.cmpi .ne v199 c0_i32_112
  v200

def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v201 : BitVec 1 := Scalar.cmpi .ne v2 c3_i32_113
  let v202 : BitVec 32 := Scalar.extui v201
  let c0_i32_114 : BitVec 32 := 0#32
  let v203 : BitVec 1 := Scalar.cmpi .ne v202 c0_i32_114
  v203

def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_119 : BitVec 32 := 0#32
  let c0_i32_120 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S512x8 : Shape := ⟨2, ![512, 8]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x8x512 : Shape := ⟨3, ![512, 8, 512]⟩
abbrev S512x1x512 : Shape := ⟨3, ![512, 1, 512]⟩

abbrev nBuf : Space → Nat
  | .hbm => 66
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S8x256x512, .bf16⟩
  | .hbm, ⟨4, _⟩ => ⟨S256x512, .bf16⟩
  | .hbm, ⟨5, _⟩ => ⟨S512x256, .f32⟩
  | .hbm, ⟨6, _⟩ => ⟨S256x8, .f32⟩
  | .hbm, ⟨7, _⟩ => ⟨S512x8, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x8, .f32⟩
  | .hbm, ⟨12, _⟩ => ⟨S512x8, .f32⟩
  | .hbm, ⟨13, _⟩ => ⟨S512x8, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x8, .f32⟩
  | .hbm, ⟨18, _⟩ => ⟨S512x8, .f32⟩
  | .hbm, ⟨19, _⟩ => ⟨S256x512, .f32⟩
  | .hbm, ⟨20, _⟩ => ⟨S512x512, .f32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x1, .i32⟩
  | .hbm, ⟨38, _⟩ => ⟨S512x1, .i1⟩
  | .hbm, ⟨39, _⟩ => ⟨S_, .i32⟩
  | .hbm, ⟨40, _⟩ => ⟨S512x1, .i32⟩
  | .hbm, ⟨41, _⟩ => ⟨S512x1, .i32⟩
  | .hbm, ⟨42, _⟩ => ⟨S512x1, .i32⟩
  | .hbm, ⟨43, _⟩ => ⟨S512x1x1, .i32⟩
  | .hbm, ⟨44, _⟩ => ⟨S512x1, .f32⟩
  | .hbm, ⟨45, _⟩ => ⟨S8x256x512, .f32⟩
  | .hbm, ⟨46, _⟩ => ⟨S512x8x512, .f32⟩
  | .hbm, ⟨47, _⟩ => ⟨S512x1x1, .i32⟩
  | .hbm, ⟨48, _⟩ => ⟨S_, .i32⟩
  | .hbm, ⟨49, _⟩ => ⟨S512x1x1, .i32⟩
  | .hbm, ⟨50, _⟩ => ⟨S512x1x1, .i1⟩
  | .hbm, ⟨51, _⟩ => ⟨S_, .i32⟩
  | .hbm, ⟨52, _⟩ => ⟨S512x1x1, .i32⟩
  | .hbm, ⟨53, _⟩ => ⟨S512x1x1, .i32⟩
  | .hbm, ⟨54, _⟩ => ⟨S512x1x1, .i32⟩
  | .hbm, ⟨55, _⟩ => ⟨S512x1x512, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S_, .f32⟩
  | .hbm, ⟨61, _⟩ => ⟨S512x512, .i1⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.KernelIdeal.Views.lean ====
/-
# The buffers of the two-phase all-reduce and the pieces they are handed round in

The launch's memrefs and semaphores by name, the row blocks of the 512x512 buffers and the slots of the
4x128x512 landing buffers as sets of elements, and what the slices, squeezes and rectangles the body uses
cover and where they put an element.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.Sem

/-! ## Memrefs -/

/-- The tokens. -/
abbrev xM : Memref sig .tc .vmem S512x256 .bf16 := Memref.whole cc0_stg0_0
/-- The router's weights. -/
abbrev rM : Memref sig .tc .vmem S256x8 .bf16 := Memref.whole cc0_stg1_0
/-- The routed expert of each token. -/
abbrev iM : Memref sig .tc .vmem S512x1 .i32 := Memref.whole cc0_stg2_0
/-- The two experts of the device. -/
abbrev eM : Memref sig .tc .vmem S2x256x512 .bf16 := Memref.whole cc0_stg3_0
/-- The shared expert. -/
abbrev wM : Memref sig .tc .vmem S256x512 .bf16 := Memref.whole cc0_stg4_0
/-- The output. -/
abbrev oM : Memref sig .tc .vmem S512x512 .bf16 := Memref.whole cc0_stg5_0
/-- The device's partial products, row block `q` for device `q`. -/
abbrev pM : Memref sig .tc .vmem S512x512 .bf16 := Memref.whole cc0_scratch0
/-- Where the partial products for the device's own rows land, slot `s` from device `s`. -/
abbrev aM : Memref sig .tc .vmem S4x128x512 .bf16 := Memref.whole cc0_scratch1
/-- The device's own rows, reduced. -/
abbrev dM : Memref sig .tc .vmem S128x512 .bf16 := Memref.whole cc0_scratch2
/-- Where the reduced rows land, slot `s` from device `s`. -/
abbrev bM : Memref sig .tc .vmem S4x128x512 .bf16 := Memref.whole cc0_scratch3

/-- A slot lies in its buffer. -/
theorem inbSlot (q : Fin 4) : ∀ a, (![q.val, 0, 0] : Fin 3 → ℕ) a + S1x128x512.size a ≤ S4x128x512.size a := by
  revert q; decide
/-- A row block lies in its buffer. -/
theorem inbRows (q : Fin 4) : ∀ a, (![128 * q.val, 0] : Fin 2 → ℕ) a + S128x512.size a ≤ S512x512.size a := by
  revert q; decide
/-- One semaphore of four lies in its array. -/
theorem inbSem (q : Fin 4) : ∀ a, (![q.val] : Fin 1 → ℕ) a + S1.size a ≤ S4.size a := by
  revert q; decide

/-- The rectangle of slot `q`. -/
abbrev rSlot (q : Fin 4) : Rect S4x128x512 := Rect.unit (s := S4x128x512) ![q.val, 0, 0] S1x128x512.size (inbSlot q)
/-- The rectangle of row block `q`. -/
abbrev rRows (q : Fin 4) : Rect S512x512 := Rect.unit (s := S512x512) ![128 * q.val, 0] S128x512.size (inbRows q)

/-- Slot `q` of a landing buffer as a 128x512 memref. -/
abbrev slotM (M : Memref sig .tc .vmem S4x128x512 .bf16) (q : Fin 4) : Memref sig .tc .vmem S128x512 .bf16 :=
  (M.slice (rSlot q) (fun _ => rfl)).squeeze S128x512 squeezes_S1x128x512_S128x512
/-- Row block `q` as a memref. -/
abbrev rowsM (M : Memref sig .tc .vmem S512x512 .bf16) (q : Fin 4) : Memref sig .tc .vmem S128x512 .bf16 :=
  M.slice (rRows q) (fun _ => rfl)

/-! ## Sets of elements -/

/-- The elements of slot `q`. -/
def slot (q : Fin 4) : Finset S4x128x512.Idx := Finset.univ.filter fun j => (j 0).val = q.val
/-- The elements of row block `q`. -/
def rows (q : Fin 4) : Finset S512x512.Idx := Finset.univ.filter fun j => (j 0).val / 128 = q.val

theorem mem_slot (q : Fin 4) (j : S4x128x512.Idx) : j ∈ slot q ↔ j 0 = q := by
  simp only [slot, Finset.mem_filter, Finset.mem_univ, true_and]
  exact ⟨fun h => Fin.ext h, fun h => congrArg Fin.val h⟩
theorem mem_rows (q : Fin 4) (j : S512x512.Idx) : j ∈ rows q ↔ (j 0).val / 128 = q.val := by simp [rows]

/-- Where the rectangle of slot `q` puts an element. -/
theorem rSlot_emb (q : Fin 4) (x : (rSlot q).shape.Idx) : (rSlot q).emb x = (ix3 q (x 1) (x 2) : S4x128x512.Idx) := by
  funext a
  apply Fin.ext
  have h0 : (x 0).val = 0 := Nat.lt_one_iff.mp (x 0).2
  match a with
  | ⟨0, _⟩ => show q.val + 1 * (x 0).val = q.val; omega
  | ⟨1, _⟩ => show 0 + 1 * (x 1).val = (x 1).val; omega
  | ⟨2, _⟩ => show 0 + 1 * (x 2).val = (x 2).val; omega

/-- Row `i` of block `q`. -/
def rowOf (q : Fin 4) (i : Fin 128) : Fin 512 := ⟨128 * q.val + i.val, by omega⟩

/-- Where the rectangle of row block `q` puts an element. -/
theorem rRows_emb (q : Fin 4) (x : (rRows q).shape.Idx) : (rRows q).emb x = (ix2 (rowOf q (x 0)) (x 1) : S512x512.Idx) := by
  funext a
  apply Fin.ext
  match a with
  | ⟨0, _⟩ => show 128 * q.val + 1 * (x 0).val = 128 * q.val + (x 0).val; omega
  | ⟨1, _⟩ => show 0 + 1 * (x 1).val = (x 1).val; omega

/-- The squeeze of a slot names element `(i, j)` as `(0, i, j)`. -/
theorem squeeze_idx (x : S128x512.Idx) :
    Shape.reshapeEquiv (squeezes_S1x128x512_S128x512).numel_eq x = (ix3 (0 : Fin 1) (x 0) (x 1) : S1x128x512.Idx) := by
  have hx : x = ix2 (x 0) (x 1) := by funext a; match a with | ⟨0, _⟩ => rfl | ⟨1, _⟩ => rfl
  rw [hx]
  exact reshapeEquiv_ix2_1ab _ (x 0) (x 1)

/-- A set of elements filled by a rectangle: every member is some element's place. -/
theorem slot_set (q : Fin 4) : (Finset.univ.map (rSlot q).emb : Finset S4x128x512.Idx) = slot q := by
  ext j
  rw [mem_slot]
  constructor
  · intro h
    obtain ⟨x, -, rfl⟩ := Finset.mem_map.mp h
    rw [rSlot_emb]
  · intro h
    refine Finset.mem_map.mpr ⟨(ix3 (0 : Fin 1) (j 1) (j 2) : S1x128x512.Idx), Finset.mem_univ _, ?_⟩
    rw [rSlot_emb]
    funext a; match a with | ⟨0, _⟩ => exact h.symm | ⟨1, _⟩ => rfl | ⟨2, _⟩ => rfl

theorem rows_set (q : Fin 4) : (Finset.univ.map (rRows q).emb : Finset S512x512.Idx) = rows q := by
  ext j
  rw [mem_rows]
  constructor
  · intro h
    obtain ⟨x, -, rfl⟩ := Finset.mem_map.mp h
    rw [rRows_emb]
    show (128 * q.val + (x 0).val) / 128 = q.val
    have := (x 0).2
    have h' : (x 0).val < 128 := this
    omega
  · intro h
    have hj : (j 0).val % 128 < 128 := Nat.mod_lt _ (by decide)
    refine Finset.mem_map.mpr ⟨(ix2 (⟨(j 0).val % 128, hj⟩ : Fin 128) (j 1) : S128x512.Idx), Finset.mem_univ _, ?_⟩
    rw [rRows_emb]
    funext a
    apply Fin.ext
    match a with
    | ⟨0, _⟩ => show 128 * q.val + (j 0).val % 128 = (j 0).val; omega
    | ⟨1, _⟩ => rfl

/-- The whole of a landing buffer is its four slots. -/
theorem slot_cover : (Finset.univ.biUnion slot) = (Finset.univ : Finset S4x128x512.Idx) := by
  ext j
  simp only [Finset.mem_biUnion, Finset.mem_univ, iff_true, mem_slot, true_and]
  exact ⟨j 0, rfl⟩
/-- The whole of a 512x512 buffer is its four row blocks. -/
theorem rows_cover : (Finset.univ.biUnion rows) = (Finset.univ : Finset S512x512.Idx) := by
  ext j
  simp only [Finset.mem_biUnion, Finset.mem_univ, iff_true, mem_rows, true_and]
  have : (j 0).val < 512 := (j 0).2
  exact ⟨⟨(j 0).val / 128, by omega⟩, rfl⟩
theorem slot_disjoint : ∀ q ∈ (Finset.univ : Finset (Fin 4)), ∀ q' ∈ (Finset.univ : Finset (Fin 4)), q ≠ q' → Disjoint (slot q) (slot q') := by
  intro q _ q' _ h
  rw [Finset.disjoint_left]
  intro j hj hj'
  rw [mem_slot] at hj hj'
  exact h (hj.symm.trans hj')
theorem rows_disjoint : ∀ q ∈ (Finset.univ : Finset (Fin 4)), ∀ q' ∈ (Finset.univ : Finset (Fin 4)), q ≠ q' → Disjoint (rows q) (rows q') := by
  intro q _ q' _ h
  rw [Finset.disjoint_left]
  intro j hj hj'
  rw [mem_rows] at hj hj'
  exact h (Fin.ext (hj.symm.trans hj'))

/-! ## What the body's accesses cover -/

/-- What a rectangle of a whole buffer covers. -/
theorem setOn_whole_rect (b : Ref sig .tc) (r : Rect b.ty.shape) : (View.whole b).setOn r.toLoadRect.set = Finset.univ.map r.emb := by
  rw [Rect.map_emb_univ]
  exact Finset.map_refl
theorem access_whole_rect (b : Ref sig .tc) (r : Rect b.ty.shape) : ((Memref.whole b).access r).setOn Finset.univ = Finset.univ.map r.emb := by
  rw [Rect.map_emb_univ]
  exact View.set_slice_whole b r

theorem aM_load (q : Fin 4) : (aM.view.setOn (rSlot q).toLoadRect.set : Finset S4x128x512.Idx) ⊆ slot q :=
  ((setOn_whole_rect cc0_scratch1 (rSlot q)).trans (slot_set q)).subset
theorem bM_load (q : Fin 4) : (bM.view.setOn (rSlot q).toLoadRect.set : Finset S4x128x512.Idx) ⊆ slot q :=
  ((setOn_whole_rect cc0_scratch3 (rSlot q)).trans (slot_set q)).subset
theorem pM_load (q : Fin 4) : (pM.view.setOn (rRows q).toLoadRect.set : Finset S512x512.Idx) ⊆ rows q :=
  ((setOn_whole_rect cc0_scratch0 (rRows q)).trans (rows_set q)).subset
theorem oM_load (q : Fin 4) : (oM.view.setOn (rRows q).toLoadRect.set : Finset S512x512.Idx) ⊆ rows q :=
  ((setOn_whole_rect cc0_stg5_0 (rRows q)).trans (rows_set q)).subset

theorem aM_store (q : Fin 4) : ((aM.access (rSlot q)).setOn Finset.univ : Finset S4x128x512.Idx) ⊆ slot q :=
  ((access_whole_rect cc0_scratch1 (rSlot q)).trans (slot_set q)).subset
theorem pM_store (q : Fin 4) : ((pM.access (rRows q)).setOn Finset.univ : Finset S512x512.Idx) ⊆ rows q :=
  ((access_whole_rect cc0_scratch0 (rRows q)).trans (rows_set q)).subset
theorem oM_store (q : Fin 4) : ((oM.access (rRows q)).setOn Finset.univ : Finset S512x512.Idx) ⊆ rows q :=
  ((access_whole_rect cc0_stg5_0 (rRows q)).trans (rows_set q)).subset

theorem aSlot_set (q : Fin 4) : ((slotM aM q).view.set : Finset S4x128x512.Idx) = slot q := by
  rw [Memref.set_view_squeeze]
  exact slot_set q
theorem bSlot_set (q : Fin 4) : ((slotM bM q).view.set : Finset S4x128x512.Idx) = slot q := by
  rw [Memref.set_view_squeeze]
  exact slot_set q
theorem pRows_set (q : Fin 4) : ((rowsM pM q).view.set : Finset S512x512.Idx) = rows q := rows_set q

theorem aSlot_emb (q : Fin 4) (x : S128x512.Idx) : ((slotM aM q).view.emb x : S4x128x512.Idx) = ix3 q (x 0) (x 1) := by
  show (rSlot q).emb (Shape.reshapeEquiv _ x) = _
  rw [rSlot_emb, squeeze_idx]
  rfl
theorem bSlot_emb (q : Fin 4) (x : S128x512.Idx) : ((slotM bM q).view.emb x : S4x128x512.Idx) = ix3 q (x 0) (x 1) := by
  show (rSlot q).emb (Shape.reshapeEquiv _ x) = _
  rw [rSlot_emb, squeeze_idx]
  rfl

/-! ## Reading and writing slots and row blocks -/

section
variable {F : FTy → Type} [FloatOps F]

/-- A landing buffer's contents, slot by slot. -/
def stack (f : Fin 4 → Vec F S128x512 .bf16) : Vec F S4x128x512 .bf16 := fun j => f (j 0) (ix2 (j 1) (j 2))
/-- A 512x512 buffer's contents, row block by row block. -/
def blocks (f : Fin 4 → Vec F S128x512 .bf16) : Vec F S512x512 .bf16 :=
  fun j => f ⟨(j 0).val / 128, by have : (j 0).val < 512 := (j 0).2; omega⟩
    (ix2 (⟨(j 0).val % 128, Nat.mod_lt _ (by decide)⟩ : Fin 128) (j 1))

/-- A 128x512 block as the one slot of a 1x128x512 block. -/
def lift (w : Vec F S128x512 .bf16) : Vec F S1x128x512 .bf16 := fun x => w (ix2 (x 1) (x 2))

theorem idx2_eta (x : S128x512.Idx) : (ix2 (x 0) (x 1) : S128x512.Idx) = x := by
  funext a; match a with | ⟨0, _⟩ => rfl | ⟨1, _⟩ => rfl

theorem blocks_at (f : Fin 4 → Vec F S128x512 .bf16) (q : Fin 4) (i : Fin 128) (j : Fin 512) :
    blocks f (ix2 (rowOf q i) j) = f q (ix2 i j) := by
  have h1 : (rowOf q i).val / 128 = q.val := by show (128 * q.val + i.val) / 128 = q.val; omega
  have h2 : (rowOf q i).val % 128 = i.val := by show (128 * q.val + i.val) % 128 = i.val; omega
  show f ⟨(rowOf q i).val / 128, _⟩ (ix2 (⟨(rowOf q i).val % 128, _⟩ : Fin 128) j) = _
  congr 1
  · exact Fin.ext h1
  · congr 1; exact Fin.ext h2

/-- A slot written through its rectangle with `lift (f q)` holds what `stack f` holds there. -/
theorem write_slot (f : Fin 4 → Vec F S128x512 .bf16) (q : Fin 4) (g : Vec F S4x128x512 .bf16) :
    ∀ j ∈ slot q, (aM.access (rSlot q)).write (Elt F) g (lift (f q)) Finset.univ j = stack f j := by
  intro j hj
  rw [← slot_set] at hj
  obtain ⟨x, -, rfl⟩ := Finset.mem_map.mp hj
  refine (View.write_emb_of_mem (v := aM.access (rSlot q)) g (lift (f q)) (Finset.mem_univ x)).trans ?_
  show f q (ix2 (x 1) (x 2)) = stack f ((rSlot q).emb x)
  rw [rSlot_emb]; rfl

/-- A slot written by a transfer with `f q` holds what `stack f` holds there. -/
theorem land_a (f : Fin 4 → Vec F S128x512 .bf16) (q : Fin 4) (g : Vec F S4x128x512 .bf16) (w : Vec F S128x512 .bf16) (hw : w = f q) :
    ∀ j ∈ slot q, (slotM aM q).view.write (Elt F) g w Finset.univ j = stack f j := by
  intro j hj
  rw [← aSlot_set] at hj
  obtain ⟨x, -, rfl⟩ := Finset.mem_map.mp hj
  refine (View.write_emb_of_mem (v := (slotM aM q).view) g w (Finset.mem_univ x)).trans ?_
  rw [hw]
  show f q x = stack f ((slotM aM q).view.emb x)
  rw [aSlot_emb]
  exact congrArg (f q) (idx2_eta x).symm
theorem land_b (f : Fin 4 → Vec F S128x512 .bf16) (q : Fin 4) (g : Vec F S4x128x512 .bf16) (w : Vec F S128x512 .bf16) (hw : w = f q) :
    ∀ j ∈ slot q, (slotM bM q).view.write (Elt F) g w Finset.univ j = stack f j := by
  intro j hj
  rw [← bSlot_set] at hj
  obtain ⟨x, -, rfl⟩ := Finset.mem_map.mp hj
  refine (View.write_emb_of_mem (v := (slotM bM q).view) g w (Finset.mem_univ x)).trans ?_
  rw [hw]
  show f q x = stack f ((slotM bM q).view.emb x)
  rw [bSlot_emb]
  exact congrArg (f q) (idx2_eta x).symm

/-- A load of a slot of `stack f`. -/
theorem read_slot_a (f : Fin 4 → Vec F S128x512 .bf16) (q : Fin 4) :
    aM.view.readAt (Elt F) (rSlot q).toLoadRect (stack f) = lift (f q) := by
  funext x
  show stack f ((rSlot q).emb x) = _
  rw [rSlot_emb]; rfl
theorem read_slot_b (f : Fin 4 → Vec F S128x512 .bf16) (q : Fin 4) :
    bM.view.readAt (Elt F) (rSlot q).toLoadRect (stack f) = lift (f q) := by
  funext x
  show stack f ((rSlot q).emb x) = _
  rw [rSlot_emb]; rfl

/-- The output's row block `q` written with `f q` holds what `blocks f` holds there. -/
theorem write_rows (f : Fin 4 → Vec F S128x512 .bf16) (q : Fin 4) (g : Vec F S512x512 .bf16) (w : Vec F S128x512 .bf16) (hw : w = f q) :
    ∀ j ∈ rows q, (oM.access (rRows q)).write (Elt F) g w Finset.univ j = blocks f j := by
  intro j hj
  rw [← rows_set] at hj
  obtain ⟨x, -, rfl⟩ := Finset.mem_map.mp hj
  refine (View.write_emb_of_mem (v := oM.access (rRows q)) g w (Finset.mem_univ x)).trans ?_
  rw [hw]
  show f q x = blocks f ((rRows q).emb x)
  rw [rRows_emb]
  exact (congrArg (f q) (idx2_eta x).symm).trans (blocks_at f q (x 0) (x 1)).symm

/-- What a transfer reads off a row block just written is what was written. -/
theorem read_rows_written (q : Fin 4) (g : Vec F S512x512 .bf16) (w : Vec F S128x512 .bf16) :
    (rowsM pM q).view.read (Elt F) ((pM.access (rRows q)).write (Elt F) g w Finset.univ) = w := by
  funext x
  exact View.read_write_of_mem (v := pM.access (rRows q)) g w (Finset.mem_univ x)

/-- A block cast to a slot is the block lifted. -/
theorem shapeCast_lift (w : Vec F S128x512 .bf16) (h) : shapeCast S1x128x512 (α := Elt F .bf16) w h = lift w := by
  funext x
  have hx : x = ix3 (0 : Fin 1) (x 1) (x 2) := by
    funext a; apply Fin.ext
    match a with
    | ⟨0, _⟩ => exact Nat.lt_one_iff.mp (x 0).2
    | ⟨1, _⟩ => rfl
    | ⟨2, _⟩ => rfl
  rw [hx]
  exact shapeCast_ab_1ab_apply w _ 0 (x 1) (x 2)
end

end Cert.KernelIdeal.Reduce
-- ==== Proof.KernelIdeal.Protocol.lean ====
/-
# The protocol of the two-phase all-reduce

Four devices. Each device signals the three others' barrier semaphore: "you may write your slot of my two
landing buffers". After three such signals it sends row block `q` of its partial products to device `q`
(phase 1), adds the four blocks that landed for its own rows, and sends the sum to every other device
(phase 2). Every semaphore is used for one round, round 0; the duties of a cell are named by devices.
-/
module

public import proofs.«01_k».proof.Proof.KernelIdeal.Views

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resource algebra, duties named by devices. -/
abbrev UB : Type := URounds (GSem nD τ sig) (Dev nD)
/-- The pipeline's algebra beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- The four arrays of transfer semaphores: phase 1's sends and receives, phase 2's sends and receives. -/
def dArr : Fin 4 → DmaSems sig S4
  | 0 => cc0_scratch4
  | 1 => cc0_scratch5
  | 2 => cc0_scratch6
  | 3 => cc0_scratch7

/-- Semaphore `q` of array `k`. -/
def dsem (k q : Fin 4) : DmaSem sig :=
  (((dArr k).slice (Rect.unit (s := S4) ![q.val] S1.size (inbSem q))).squeeze S_ squeezes_S1_S_).sem

/-- The runtime's barrier semaphore. -/
abbrev barS : Sem sig := (SemArray.scalar (sig.barrier 0 rfl) : Sems sig S_).sem

abbrev barCell (c : Dev nD) : GSem nD τ sig := ((c : Thread nD τ), .reg barS)
abbrev dCell (k : Fin 4) (c : Dev nD) (q : Fin 4) : GSem nD τ sig := ((c : Thread nD τ), .dma (dsem k q))

theorem dsem_inj : ∀ k q k' q' : Fin 4, dsem k q = dsem k' q' → k = k' ∧ q = q' := by decide +kernel
theorem dma_ne_bar (k q : Fin 4) : (SemLoc.dma (dsem k q) : SemLoc sig) ≠ .reg barS := fun h => by cases h
theorem dma_eq {k q k' q' : Fin 4} (h : (SemLoc.dma (dsem k q) : SemLoc sig) = .dma (dsem k' q')) : k = k' ∧ q = q' :=
  dsem_inj _ _ _ _ (SemLoc.dma.inj h)

/-- The credit of one transfer: a 128x512 block of bf16. -/
abbrev N : ℕ := (slotM aM 0).view.dmaCredit
theorem N_pos : 0 < N := View.dmaCredit_pos _ (by decide)

/-! ## Assertions about the buffers -/

section Buffers

/-- Slot `s` of device `c`'s phase 1 landing buffer at contents `f`. -/
def aPts (c : Dev nD) (s : Fin 4) (f : Vec F S4x128x512 .bf16) : sProp 𝕄 :=
  ((c : Thread nD τ).loc cc0_scratch1) ↦[slot s]{fullShare} f
/-- Slot `s` of device `c`'s phase 2 landing buffer at contents `f`. -/
def bPts (c : Dev nD) (s : Fin 4) (f : Vec F S4x128x512 .bf16) : sProp 𝕄 :=
  ((c : Thread nD τ).loc cc0_scratch3) ↦[slot s]{fullShare} f
/-- Row block `q` of device `c`'s partial products at contents `f`. -/
def pPts (c : Dev nD) (q : Fin 4) (f : Vec F S512x512 .bf16) : sProp 𝕄 :=
  ((c : Thread nD τ).loc cc0_scratch0) ↦[rows q]{fullShare} f
/-- Row block `q` of device `c`'s output at contents `f`. -/
def oPts (c : Dev nD) (q : Fin 4) (f : Vec F S512x512 .bf16) : sProp 𝕄 :=
  ((c : Thread nD τ).loc cc0_stg5_0) ↦[rows q]{fullShare} f

/-- The reduced rows are read by four transfers at most: a quarter of the buffer's share for each. -/
def sh : Fin 4 → PosShare TreeShare
  | 0 => fullShare.left.left
  | 1 => fullShare.left.right
  | 2 => fullShare.right.left
  | 3 => fullShare.right.right
/-- A quarter share of device `c`'s reduced rows. -/
def dPts (c : Dev nD) (t : Fin 4) (f : Vec F S128x512 .bf16) : sProp 𝕄 :=
  ((c : Thread nD τ).loc cc0_scratch2) ↦[Finset.univ]{sh t} f

instance (c : Dev nD) (s : Fin 4) (f) : BI.Storable (upEmb : UEmb _ 𝕄) (aPts (F := F) c s f) := by unfold aPts; infer_instance
instance (c : Dev nD) (s : Fin 4) (f) : BI.Storable (upEmb : UEmb _ 𝕄) (bPts (F := F) c s f) := by unfold bPts; infer_instance
instance (c : Dev nD) (s : Fin 4) (f) : BI.Storable (upEmb : UEmb _ 𝕄) (pPts (F := F) c s f) := by unfold pPts; infer_instance
instance (c : Dev nD) (s : Fin 4) (f) : BI.Storable (upEmb : UEmb _ 𝕄) (dPts (F := F) c s f) := by unfold dPts; infer_instance

def aAny (c : Dev nD) (s : Fin 4) : sProp 𝕄 := iprop(∃ f, aPts (F := F) c s f)
def bAny (c : Dev nD) (s : Fin 4) : sProp 𝕄 := iprop(∃ f, bPts (F := F) c s f)
def pAny (c : Dev nD) (s : Fin 4) : sProp 𝕄 := iprop(∃ f, pPts (F := F) c s f)
def oAny (c : Dev nD) (s : Fin 4) : sProp 𝕄 := iprop(∃ f, oPts (F := F) c s f)

instance (c : Dev nD) (s : Fin 4) : BI.Storable (upEmb : UEmb _ 𝕄) (aAny (F := F) c s) := by unfold aAny; infer_instance
instance (c : Dev nD) (s : Fin 4) : BI.Storable (upEmb : UEmb _ 𝕄) (bAny (F := F) c s) := by unfold bAny; infer_instance
instance (c : Dev nD) (s : Fin 4) : BI.Storable (upEmb : UEmb _ 𝕄) (pAny (F := F) c s) := by unfold pAny; infer_instance

end Buffers

/-! ## The schedule

`A s q` is the block device `s` computes for device `q`'s rows, `D q` device `q`'s reduced rows. -/

section Sched
variable (A : Dev nD → Dev nD → Vec F S128x512 .bf16) (D : Dev nD → Vec F S128x512 .bf16)

/-- What device `c`'s phase 1 landing buffer holds in the end. -/
abbrev aVal (c : Dev nD) : Vec F S4x128x512 .bf16 := stack fun s => A s c

/-- What duty `d` of array `k`'s cell `d` on device `c` delivers. -/
def xPay (k : Fin 4) (c d : Dev nD) : sProp 𝕄 :=
  match k with
  | 0 => pAny c d
  | 1 => aPts c d (aVal A c)
  | 2 => dPts c d (D c)
  | 3 => bPts c d (stack D)

/-- What device `d`'s signal hands device `c`: slot `c` of `d`'s two landing buffers. -/
def barPay (c d : Dev nD) : sProp 𝕄 := iprop(aAny (F := F) d c ∗ bAny (F := F) d c)

instance (k : Fin 4) (c d : Dev nD) : BI.Storable (upEmb : UEmb _ 𝕄) (xPay A D k c d) := by
  unfold xPay; split <;> infer_instance
instance (c d : Dev nD) : BI.Storable (upEmb : UEmb _ 𝕄) (barPay (F := F) c d) := by unfold barPay; infer_instance

/-- One round: a barrier cell has a duty of one unit from each other device; cell `q` of a device `c ≠ q` has the duty `q`
    of one transfer. -/
def Rd : Rounds.Schedule (GSem nD τ sig) (Dev nD) 𝕄 where
  duties g r := Finset.univ.filter fun d => r = 0 ∧ g.1.2 = .tc ∧ d ≠ g.1.1 ∧ (g.2 = .reg barS ∨ ∃ k, g.2 = .dma (dsem k d))
  unitless _ := False
  amount g _ _ := if g.2 = .reg barS then 1 else N
  payload g _ d :=
    if g.2 = .reg barS then barPay g.1.1 d
    else if g.2 = .dma (dsem 0 d) then xPay A D 0 g.1.1 d
    else if g.2 = .dma (dsem 1 d) then xPay A D 1 g.1.1 d
    else if g.2 = .dma (dsem 2 d) then xPay A D 2 g.1.1 d
    else if g.2 = .dma (dsem 3 d) then xPay A D 3 g.1.1 d
    else iprop(emp)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd A D).payload g r d) := by
  dsimp only [Rd]
  (repeat' split) <;> infer_instance

theorem mem_duties (g : GSem nD τ sig) (r : ℕ) (d : Dev nD) :
    d ∈ (Rd A D).duties g r ↔ r = 0 ∧ g.1.2 = .tc ∧ d ≠ g.1.1 ∧ (g.2 = .reg barS ∨ ∃ k, g.2 = .dma (dsem k d)) := by
  dsimp only [Rd]
  rw [Finset.mem_filter]
  exact and_iff_right (Finset.mem_univ _)

theorem duties_bar (c : Dev nD) : (Rd A D).duties (barCell c) 0 = Finset.univ.erase c := by
  ext d
  rw [mem_duties, Finset.mem_erase]
  exact ⟨fun h => ⟨h.2.2.1, Finset.mem_univ _⟩, fun h => ⟨rfl, rfl, h.1, Or.inl rfl⟩⟩

theorem duties_x_ne (k : Fin 4) {c q : Dev nD} (h : c ≠ q) : (Rd A D).duties (dCell k c q) 0 = {q} := by
  ext d
  rw [mem_duties, Finset.mem_singleton]
  constructor
  · rintro ⟨-, -, -, hb | ⟨k', hk⟩⟩
    · exact absurd hb (dma_ne_bar k q)
    · exact (dma_eq hk).2.symm
  · rintro rfl
    exact ⟨rfl, rfl, fun h' => h h'.symm, Or.inr ⟨k, rfl⟩⟩

theorem duties_x_eq (k : Fin 4) (c : Dev nD) : (Rd A D).duties (dCell k c c) 0 = ∅ := by
  ext d
  rw [mem_duties]
  refine iff_of_false ?_ (Finset.notMem_empty _)
  rintro ⟨-, -, hd, hb | ⟨k', hk⟩⟩
  · exact dma_ne_bar k c hb
  · exact hd (dma_eq hk).2.symm

theorem duties_later (g : GSem nD τ sig) : ∀ r, 1 ≤ r → (Rd A D).duties g r = ∅ := by
  intro r hr
  ext d
  rw [mem_duties]
  refine iff_of_false ?_ (Finset.notMem_empty _)
  rintro ⟨h, -⟩
  omega

theorem amount_bar (c d : Dev nD) : (Rd A D).amount (barCell c) 0 d = 1 := by dsimp only [Rd]; exact if_pos rfl
theorem amount_x (k : Fin 4) (c q d : Dev nD) : (Rd A D).amount (dCell k c q) 0 d = N := by dsimp only [Rd]; exact if_neg (dma_ne_bar k q)

theorem expect_bar (c : Dev nD) : (Rd A D).expect (barCell c) 0 = 3 := by
  unfold Schedule.expect Schedule.amountOf
  rw [duties_bar, Finset.sum_congr rfl fun d _ => amount_bar A D c d, Finset.sum_const, smul_eq_mul, Nat.mul_one]
  revert c; decide
theorem expect_x (k : Fin 4) {c q : Dev nD} (h : c ≠ q) : (Rd A D).expect (dCell k c q) 0 = N := by
  unfold Schedule.expect Schedule.amountOf
  rw [duties_x_ne A D k h, Finset.sum_singleton, amount_x]

theorem payload_bar (c d : Dev nD) : (Rd A D).payload (barCell c) 0 d = barPay c d := by dsimp only [Rd]; exact if_pos rfl
theorem payload_x (k : Fin 4) (c q : Dev nD) : (Rd A D).payload (dCell k c q) 0 q = xPay A D k c q := by
  have hne : ∀ k' : Fin 4, k ≠ k' → (SemLoc.dma (dsem k q) : SemLoc sig) ≠ .dma (dsem k' q) := fun k' hk h => hk (dma_eq h).1
  dsimp only [Rd]
  rw [if_neg (dma_ne_bar k q)]
  match k with
  | 0 => rw [if_pos rfl]
  | 1 => rw [if_neg (hne 0 (by decide)), if_pos rfl]
  | 2 => rw [if_neg (hne 0 (by decide)), if_neg (hne 1 (by decide)), if_pos rfl]
  | 3 => rw [if_neg (hne 0 (by decide)), if_neg (hne 1 (by decide)), if_neg (hne 2 (by decide)), if_pos rfl]

theorem rest_bar (c : Dev nD) :
    bigSep ((Rd A D).duties (barCell c) 0 \ ∅) (fun d => (Rd A D).payload (barCell c) 0 d)
      = bigSep (Finset.univ.erase c) fun d => barPay c d := by
  rw [Finset.sdiff_empty, duties_bar]
  exact bigSep_congr fun d _ => payload_bar A D c d
theorem rest_x (k : Fin 4) {c q : Dev nD} (h : c ≠ q) :
    bigSep ((Rd A D).duties (dCell k c q) 0 \ ∅) (fun d => (Rd A D).payload (dCell k c q) 0 d) = xPay A D k c q := by
  rw [Finset.sdiff_empty, duties_x_ne A D k h, bigSep_singleton, payload_x]

end Sched

/-! ## What each device owes, and the order of the waits -/

/-- What device `c` still owes: one unit to the barrier of each device in `B`, one transfer of phase 1 to each device in
    `S₁`, one of phase 2 to each in `S₂`. -/
def OW (c : Dev nD) (B S₁ S₂ : Finset (Dev nD)) : CellTallies nD τ sig Unit :=
  (∑ p ∈ B, tallyAt (barCell p) () 1) + (∑ p ∈ S₁, tallyAt (dCell 1 p c) () N) + ∑ p ∈ S₂, tallyAt (dCell 3 p c) () N

theorem OW_bar (c p : Dev nD) {B S₁ S₂ : Finset (Dev nD)} (h : p ∈ B) :
    OW c B S₁ S₂ = OW c (B.erase p) S₁ S₂ + tallyAt (barCell p) () 1 := by
  unfold OW
  rw [← Finset.sum_erase_add _ _ h]
  rw [add_right_comm _ (tallyAt _ _ _), add_right_comm _ (tallyAt _ _ _)]
theorem OW_one (c p : Dev nD) {B S₁ S₂ : Finset (Dev nD)} (h : p ∈ S₁) :
    OW c B S₁ S₂ = OW c B (S₁.erase p) S₂ + tallyAt (dCell 1 p c) () N := by
  unfold OW
  rw [← Finset.sum_erase_add S₁ _ h]
  rw [← add_assoc, add_right_comm _ (tallyAt _ _ _)]
theorem OW_two (c p : Dev nD) {B S₁ S₂ : Finset (Dev nD)} (h : p ∈ S₂) :
    OW c B S₁ S₂ = OW c B S₁ (S₂.erase p) + tallyAt (dCell 3 p c) () N := by
  unfold OW
  rw [← Finset.sum_erase_add S₂ _ h]
  rw [← add_assoc]
theorem OW_nil (c : Dev nD) : OW c ∅ ∅ ∅ = 0 := by simp [OW]

/-- What a device owes at launch. -/
abbrev O₀ (c : Dev nD) : CellTallies nD τ sig Unit := OW c (Finset.univ.erase c) (Finset.univ.erase c) (Finset.univ.erase c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers first, then phase 1's receives, then phase 2's; everything else below. -/
def lv (g : GSem nD τ sig) (_ : Unit) : ℕ :=
  if g.2 = .reg barS then 1 else if ∃ q, g.2 = .dma (dsem 1 q) then 2 else if ∃ q, g.2 = .dma (dsem 3 q) then 3 else 0

theorem lv_bar (c : Dev nD) : lv (barCell c) () = 1 := if_pos rfl
theorem lv_one (c : Dev nD) (q : Fin 4) : lv (dCell 1 c q) () = 2 := by
  unfold lv; rw [if_neg (dma_ne_bar 1 q)]; exact if_pos ⟨q, rfl⟩
theorem lv_two (c : Dev nD) (q : Fin 4) : lv (dCell 3 c q) () = 3 := by
  unfold lv; rw [if_neg (dma_ne_bar 3 q), if_neg (fun ⟨q', h⟩ => absurd (dma_eq h).1 (by decide))]; exact if_pos ⟨q, rfl⟩
theorem lv_low (g : GSem nD τ sig) (h : g.2 ≠ .reg barS) (h1 : ∀ q, g.2 ≠ .dma (dsem 1 q)) (h3 : ∀ q, g.2 ≠ .dma (dsem 3 q)) :
    lv g () = 0 := by
  unfold lv; rw [if_neg h, if_neg (fun ⟨q, h'⟩ => h1 q h'), if_neg (fun ⟨q, h'⟩ => h3 q h')]

theorem sum_tally_pos {ι : Type} {S : Finset ι} {f : ι → GSem nD τ sig} {k : ℕ} {g : GSem nD τ sig} {u : Unit}
    (h : 0 < (∑ p ∈ S, (tallyAt (f p) () k : CellTallies nD τ sig Unit)) g u) : ∃ p ∈ S, g = f p := by
  classical
  induction S using Finset.induction_on with
  | empty => rw [Finset.sum_empty] at h; exact absurd h (Nat.lt_irrefl 0)
  | insert a S ha ih =>
    rw [Finset.sum_insert ha, Pi.add_apply, Finsupp.add_apply, tallyAt_apply] at h
    by_cases h' : g = f a ∧ u = ()
    · exact ⟨a, Finset.mem_insert_self _ _, h'.1⟩
    · rw [if_neg h', Nat.zero_add] at h
      obtain ⟨p, hp, e⟩ := ih h
      exact ⟨p, Finset.mem_insert_of_mem hp, e⟩

theorem OW_pos {c : Dev nD} {B S₁ S₂ : Finset (Dev nD)} {g : GSem nD τ sig} {u : Unit} (h : 0 < OW c B S₁ S₂ g u) :
    (∃ p ∈ B, g = barCell p) ∨ (∃ p ∈ S₁, g = dCell 1 p c) ∨ ∃ p ∈ S₂, g = dCell 3 p c := by
  unfold OW at h
  rw [Pi.add_apply, Finsupp.add_apply, Pi.add_apply, Finsupp.add_apply] at h
  rcases Nat.add_pos_iff_pos_or_pos.mp h with h | h
  · rcases Nat.add_pos_iff_pos_or_pos.mp h with h | h
    · exact .inl (sum_tally_pos h)
    · exact .inr (.inl (sum_tally_pos h))
  · exact .inr (.inr (sum_tally_pos h))

/-- A device may wait on a cell below everything it still owes. -/
theorem mayWait_cut (c : Dev nD) (sm : SemLoc sig) (B S₁ S₂ : Finset (Dev nD)) (n : ℕ) (hn : lv ((c : Thread nD τ), sm) () ≤ n)
    (hB : B.Nonempty → n < 1) (h1 : S₁.Nonempty → n < 2) (h2 : S₂.Nonempty → n < 3) :
    (levAts L lv : sProp 𝕄) ⊢ MayWait (c : Thread nD τ) sm () (OW c B S₁ S₂) :=
  MayOwe.of_cut (L := L) (lev := lv) n
    (fun p hp => by rw [Finset.mem_singleton.mp hp, L_tc]; exact Finset.mem_singleton_self _)
    (fun g u hg => by rcases OW_pos hg with ⟨p, -, rfl⟩ | ⟨p, -, rfl⟩ | ⟨p, -, rfl⟩ <;> exact Finset.mem_singleton_self _)
    (fun p hp => by rw [Finset.mem_singleton.mp hp]; exact hn)
    (fun g u hg => by
      rcases OW_pos hg with ⟨p, hp, rfl⟩ | ⟨p, hp, rfl⟩ | ⟨p, hp, rfl⟩
      · exact lt_of_lt_of_eq (hB ⟨p, hp⟩) (lv_bar p).symm
      · exact lt_of_lt_of_eq (h1 ⟨p, hp⟩) (lv_one p c).symm
      · exact lt_of_lt_of_eq (h2 ⟨p, hp⟩) (lv_two p c).symm)

end Cert.KernelIdeal.Reduce
-- ==== Proof.KernelIdeal.Steps.lean ====
/-
# The steps of the body, each under its condition

Every conditional of the body asks whether a fixed place `q` is the device's own place `c`. One lemma per kind
of conditional: what it needs, what it leaves, in both cases, and the program after it.
-/
module

public import proofs.«01_k».proof.Proof.KernelIdeal.Protocol

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- The barrier cell, or cell `q` of array `k`. -/
abbrev CK : Type := Option (Fin 4 × Fin 4)
def kcell (x : Dev nD × CK) : GSem nD τ sig :=
  match x.2 with
  | none => barCell x.1
  | some kq => dCell kq.1 x.1 kq.2

section Records
variable (A : Dev nD → Dev nD → Vec F S128x512 .bf16) (D : Dev nD → Vec F S128x512 .bf16) (K : Dev nD × CK → ℕ)

/-- Every cell's invariant, under the names `K`, and that round 0 of it is open. -/
def records : sProp 𝕄 :=
  bigSep Finset.univ fun x : Dev nD × CK => iprop(cellInv ER (Rd A D) (K x) (kcell x) ∗ reached ER (kcell x) 0)

instance records_persistent : BI.Persistent (records A D K) := by unfold records; infer_instance

theorem records_bar (c : Dev nD) :
    records A D K ⊢ iprop(cellInv ER (Rd A D) (K (c, none)) (barCell c) ∗ reached ER (barCell c) 0) := by
  unfold records
  exact bigSep_elim (Finset.mem_univ (c, none))
theorem records_x (k : Fin 4) (c : Dev nD) (q : Fin 4) :
    records A D K ⊢ iprop(cellInv ER (Rd A D) (K (c, some (k, q))) (dCell k c q) ∗ reached ER (dCell k c q) 0) := by
  unfold records
  exact bigSep_elim (Finset.mem_univ (c, some (k, q)))

/-- What device `c` owes, whatever it waited for before. -/
def ow (c : Dev nD) (O : CellTallies nD τ sig Unit) : sProp 𝕄 := iprop(∃ W : Waits sig Unit, owes (c : Thread nD τ) O W)

/-! ## The own block -/

/-- The own block of phase 1 stored into the own landing buffer, when `q` is the device itself. -/
theorem own_step (c q : Dev nD) {cond : BitVec 1} (hc : cond = 1#1 ↔ c = q) (v : Vec F S1x128x512 .bf16) (hv : v = lift (A c q)) (R : sProp 𝕄)
    {pl : aM.view.LoadsAt (rSlot q).toLoadRect} {ps : (aM.access (rSlot q)).Stores Finset.univ} {pe}
    {α : Type} {k : PUnit → Prog (TpuEff nD τ sig (Elt F) Λ₀ .tc) α} {Q : α → sProp 𝕄} :
    iprop((if c = q then aAny c q else R) ∗ ((if c = q then aPts c q (aVal A c) else R) -∗ WP c (k ⟨⟩) Q))
      ⊢ WP c (if h : cond = 1#1 then do
            let _ ← Prog.lift (.load aM (rSlot q).toLoadRect pl)
            Prog.lift (.store aM (rSlot q) v Finset.univ ps pe)
            k ⟨⟩
          else k ⟨⟩) Q := by
  by_cases hq : c = q
  · rw [if_pos hq, if_pos hq, dif_pos (hc.mpr hq)]
    simp only [Prog.lift, Prog.bind_op, Prog.bind_ret, Prog.pure_eq_ret]
    unfold aAny aPts
    iintro ⟨⟨%f, H⟩, Hk⟩
    iapply (wp_load 𝒱₀ (c : Thread nD τ) none Set.univ (m := aM) (aM_load q)) $$ H; iintro H
    iapply (wp_store 𝒱₀ (c : Thread nD τ) none Set.univ (m := aM) (r := rSlot q) (Mk := Finset.univ) (aM_store q)) $$ H; iintro H
    iapply Hk
    ihave H := (Entails.of_eq (pointsTo_congr (g := (aVal A c : Vec F S4x128x512 .bf16)) (by subst hq; subst hv; exact write_slot (fun s => A s c) c f))) $$ H
    iexact H
  · rw [if_neg hq, if_neg hq, dif_neg (fun h => hq (hc.mp h))]
    iintro ⟨HR, Hk⟩
    iapply Hk
    iexact HR

/-! ## Sending a block -/

/-- Row block `q` written and sent to device `q`, unless `q` is the device itself. -/
theorem send_one_step (c q : Dev nD) {cond : BitVec 1} (hc : cond = 1#1 ↔ c ≠ q)
    {dv : ℕ} (hdv : dv = q.val) {so : Fin 1 → ℕ} (hso : so = ![c.val]) {ao : Fin 3 → ℕ} (hao : ao = ![c.val, 0, 0])
    (v : Vec F S128x512 .bf16) (hv : v = A c q) (S₁ S₂ : Finset (Dev nD)) (hS : c ≠ q → q ∈ S₁) (hS' : c ∉ S₁)
    {hlt : cond = 1#1 → dv < nD}
    {hsi : cond = 1#1 → ∀ a, so a + S1.size a ≤ S4.size a}
    {hai : cond = 1#1 → ∀ a, ao a + S1x128x512.size a ≤ S4x128x512.size a}
    {pl : pM.view.LoadsAt (rRows q).toLoadRect} {ps : (pM.access (rRows q)).Stores Finset.univ} {pe}
    {hsrc : cond = 1#1 → (rowsM pM q).view.WordExact}
    {hdst : ∀ h : cond = 1#1, ((aM.slice (Rect.unit (s := S4x128x512) ao S1x128x512.size (hai h)) (fun _ => rfl)).squeeze S128x512 squeezes_S1x128x512_S128x512).view.WordExact}
    {α : Type} {k : PUnit → Prog (TpuEff nD τ sig (Elt F) Λ₀ .tc) α} {Q : α → sProp 𝕄} :
    iprop(records A D K ∗ pAny c q
        ∗ (if c = q then emp else iprop(dutyTok ER (dCell 0 c q) 0 q ∗ dutyTok ER (dCell 1 q c) 0 c ∗ aAny q c))
        ∗ ow c (OW c ∅ S₁ S₂)
        ∗ ((if c = q then pAny c q else cred (tallyAt (dCell 0 c q) () N)) -∗ ow c (OW c ∅ (S₁.erase q) S₂) -∗ WP c (k ⟨⟩) Q))
      ⊢ WP c (if h : cond = 1#1 then do
            let _ ← Prog.lift (.load pM (rRows q).toLoadRect pl)
            Prog.lift (.store pM (rRows q) v Finset.univ ps pe)
            Prog.lift (.enqueueDma (rowsM pM q)
              (.remote (Dev.tc (⟨dv, hlt h⟩ : Dev nD))
                ((aM.slice (Rect.unit (s := S4x128x512) ao S1x128x512.size (hai h)) (fun _ => rfl)).squeeze S128x512 squeezes_S1x128x512_S128x512)
                (.dma (((dArr 0).slice (Rect.unit (s := S4) ![q.val] S1.size (inbSem q))).squeeze S_ squeezes_S1_S_).sem))
              (.dma (((dArr 1).slice (Rect.unit (s := S4) so S1.size (hsi h))).squeeze S_ squeezes_S1_S_).sem) (hsrc h) (hdst h) ⟨⟨rfl, Or.inl rfl⟩, trivial⟩)
            k ⟨⟩
          else k ⟨⟩) Q := by
  subst hdv hso hao hv
  by_cases hq : c = q
  · have he : S₁.erase q = S₁ := Finset.erase_eq_of_notMem (hq ▸ hS')
    rw [if_pos hq, if_pos hq, dif_neg (fun h => hc.mp h hq), he]
    iintro ⟨-, Hp, -, HO, Hk⟩
    iapply Hk $$ Hp HO
  · rw [if_neg hq, if_neg hq, dif_pos (hc.mpr hq)]
    simp only [Prog.lift, Prog.bind_op, Prog.bind_ret, Prog.pure_eq_ret]
    unfold pAny pPts ow
    iintro ⟨#HR, ⟨%f, H⟩, ⟨Ht0, Ht1, Ha⟩, ⟨%W, HO⟩, Hk⟩
    iapply (wp_load 𝒱₀ (c : Thread nD τ) none Set.univ (m := pM) (pM_load q)) $$ H; iintro H
    iapply (wp_store 𝒱₀ (c : Thread nD τ) none Set.univ (m := pM) (r := rRows q) (Mk := Finset.univ) (pM_store q)) $$ H; iintro H
    unfold aAny
    icases Ha with ⟨%fa, Ha⟩
    ihave Hr0 := (records_x A D K 0 c q) $$ HR
    icases Hr0 with ⟨#HI0, #Hm0⟩
    ihave Hr1 := (records_x A D K 1 q c) $$ HR
    icases Hr1 with ⟨#HI1, #Hm1⟩
    iapply (Rounds.wp_send_pointsTo 𝒱₀ ER (Rd A D) (c : Thread nD τ) none (c' := (q : Thread nD τ)) (κ₁ := K (c, some (0, q))) (κ₂ := K (q, some (1, c)))
      (src := rowsM pM q) (dst := slotM aM c) (sS := .dma (dsem 0 q)) (sem := .dma (dsem 1 c))
      (q := fullShare)
      (fs := (pM.access (rRows q)).write (Elt F) f (A c q) Finset.univ)
      (r₁ := 0) (r₂ := 0) (d₁ := q) (d₂ := c) (fd := fa)
      (by rw [duties_x_ne A D 0 hq]; exact Finset.mem_singleton_self _)
      (by rw [duties_x_ne A D 1 (Ne.symm hq)]; exact Finset.mem_singleton_self _)
      () () N rfl (amount_x A D 0 c q q) (amount_x A D 1 q c c) (OW c ∅ (S₁.erase q) S₂) (OW_one c q (hS hq)) (W := W)
      (by
        rw [payload_x, pRows_set]
        show _ ⊢ pAny c q
        unfold pAny pPts
        iintro H
        iexists _
        iexact H)
      (by
        rw [payload_x, aSlot_set]
        show _ ⊢ aPts q c (aVal A q)
        unfold aPts
        exact Entails.of_eq (pointsTo_congr (land_a (fun s => A s q) c fa _ (read_rows_written q f (A c q)))))) $$ [H Ha HO Ht0 Ht1]
    · isplitr; · iexact HI0
      isplitr; · iexact HI1
      isplitl [H]
      · rw [pRows_set]; iexact H
      isplitl [Ha]
      · rw [aSlot_set]; unfold aPts; iexact Ha
      isplitl [HO]; · iexact HO
      isplitl [Ht0]; · iexact Ht0
      isplitr; · iexact Hm0
      isplitl [Ht1]; · iexact Ht1
      iexact Hm1
    iintro ⟨Hc, HO⟩
    iapply Hk $$ Hc
    iexists W
    iexact HO

/-- Reduced rows sent to device `t`, unless `t` is the device itself. -/
theorem send_two_step (c t : Dev nD) {cond : BitVec 1} (hc : cond = 1#1 ↔ c ≠ t)
    {dv : ℕ} (hdv : dv = t.val) {so : Fin 1 → ℕ} (hso : so = ![c.val]) {ao : Fin 3 → ℕ} (hao : ao = ![c.val, 0, 0])
    (S₁ S₂ : Finset (Dev nD)) (hS : c ≠ t → t ∈ S₂) (hS' : c ∉ S₂)
    {hlt : cond = 1#1 → dv < nD}
    {hsi : cond = 1#1 → ∀ a, so a + S1.size a ≤ S4.size a}
    {hai : cond = 1#1 → ∀ a, ao a + S1x128x512.size a ≤ S4x128x512.size a}
    {hsrc : dM.view.WordExact}
    {hdst : ∀ h : cond = 1#1, ((bM.slice (Rect.unit (s := S4x128x512) ao S1x128x512.size (hai h)) (fun _ => rfl)).squeeze S128x512 squeezes_S1x128x512_S128x512).view.WordExact}
    {α : Type} {k : PUnit → Prog (TpuEff nD τ sig (Elt F) Λ₀ .tc) α} {Q : α → sProp 𝕄} :
    iprop(records A D K ∗ dPts c t (D c)
        ∗ (if c = t then emp else iprop(dutyTok ER (dCell 2 c t) 0 t ∗ dutyTok ER (dCell 3 t c) 0 c ∗ bAny t c))
        ∗ ow c (OW c ∅ S₁ S₂)
        ∗ ((if c = t then dPts c t (D c) else cred (tallyAt (dCell 2 c t) () N)) -∗ ow c (OW c ∅ S₁ (S₂.erase t)) -∗ WP c (k ⟨⟩) Q))
      ⊢ WP c (if h : cond = 1#1 then do
            Prog.lift (.enqueueDma dM
              (.remote (Dev.tc (⟨dv, hlt h⟩ : Dev nD))
                ((bM.slice (Rect.unit (s := S4x128x512) ao S1x128x512.size (hai h)) (fun _ => rfl)).squeeze S128x512 squeezes_S1x128x512_S128x512)
                (.dma (((dArr 2).slice (Rect.unit (s := S4) ![t.val] S1.size (inbSem t))).squeeze S_ squeezes_S1_S_).sem))
              (.dma (((dArr 3).slice (Rect.unit (s := S4) so S1.size (hsi h))).squeeze S_ squeezes_S1_S_).sem) hsrc (hdst h) ⟨⟨rfl, Or.inl rfl⟩, trivial⟩)
            k ⟨⟩
          else k ⟨⟩) Q := by
  subst hdv hso hao
  by_cases hq : c = t
  · have he : S₂.erase t = S₂ := Finset.erase_eq_of_notMem (hq ▸ hS')
    rw [if_pos hq, if_pos hq, dif_neg (fun h => hc.mp h hq), he]
    iintro ⟨-, Hp, -, HO, Hk⟩
    iapply Hk $$ Hp HO
  · rw [if_neg hq, if_neg hq, dif_pos (hc.mpr hq)]
    simp only [Prog.lift, Prog.bind_op, Prog.bind_ret, Prog.pure_eq_ret]
    unfold dPts ow bAny
    iintro ⟨#HR, H, ⟨Ht0, Ht1, ⟨%fa, Ha⟩⟩, ⟨%W, HO⟩, Hk⟩
    ihave Hr0 := (records_x A D K 2 c t) $$ HR
    icases Hr0 with ⟨#HI0, #Hm0⟩
    ihave Hr1 := (records_x A D K 3 t c) $$ HR
    icases Hr1 with ⟨#HI1, #Hm1⟩
    iapply (Rounds.wp_send_pointsTo 𝒱₀ ER (Rd A D) (c : Thread nD τ) none (c' := (t : Thread nD τ)) (κ₁ := K (c, some (2, t))) (κ₂ := K (t, some (3, c)))
      (src := dM) (dst := slotM bM c) (sS := .dma (dsem 2 t)) (sem := .dma (dsem 3 c))
      (q := sh t)
      (fs := D c)
      (r₁ := 0) (r₂ := 0) (d₁ := t) (d₂ := c) (fd := fa)
      (by rw [duties_x_ne A D 2 hq]; exact Finset.mem_singleton_self _)
      (by rw [duties_x_ne A D 3 (Ne.symm hq)]; exact Finset.mem_singleton_self _)
      () () N rfl (amount_x A D 2 c t t) (amount_x A D 3 t c c) (OW c ∅ S₁ (S₂.erase t)) (OW_two c t (hS hq)) (W := W)
      (by
        rw [payload_x, View.set_whole]
        show _ ⊢ dPts c t (D c)
        unfold dPts
        exact BI.Entails.refl _)
      (by
        rw [payload_x, bSlot_set]
        show _ ⊢ bPts t c (stack D)
        unfold bPts
        exact Entails.of_eq (pointsTo_congr (land_b D c fa _ (View.read_whole _ _))))) $$ [H Ha HO Ht0 Ht1]
    · isplitr; · iexact HI0
      isplitr; · iexact HI1
      isplitl [H]
      · rw [View.set_whole]; iexact H
      isplitl [Ha]
      · rw [bSlot_set]; unfold bPts; iexact Ha
      isplitl [HO]; · iexact HO
      isplitl [Ht0]; · iexact Ht0
      isplitr; · iexact Hm0
      isplitl [Ht1]; · iexact Ht1
      iexact Hm1
    iintro ⟨Hc, HO⟩
    iapply Hk $$ Hc
    iexists W
    iexact HO

/-! ## Waits -/

/-- A wait on cell `q` of array `k` for its one transfer: what it delivered, the cell closed. -/
theorem wait_x (k : Fin 4) (c q : Dev nD) (hq : c ≠ q) (O : CellTallies nD τ sig Unit)
    (hO : (levAts L lv : sProp 𝕄) ⊢ MayWait (c : Thread nD τ) (.dma (dsem k q)) () O)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (dsem k q)) N Kt)
    {α : Type} {kt : PUnit → Prog (TpuEff nD τ sig (Elt F) Λ₀ .tc) α} {Q : α → sProp 𝕄} :
    iprop(records A D K ∗ levAts L lv ∗ cred (tallyAt (dCell k c q) () N) ∗ atPos ER (dCell k c q) 0 ∅ 0 ∗ ow c O
        ∗ (xPay A D k c q -∗ semVal (dCell k c q) 0 -∗ ow c O -∗ WP c (kt ⟨⟩) Q))
      ⊢ WP c (.op w kt) Q := by
  unfold ow
  iintro ⟨#HR, #Hlev, Hc, Hat, ⟨%W, HO⟩, Hk⟩
  ihave Hr := (records_x A D K k c q) $$ HR
  icases Hr with ⟨#HI, #Hm⟩
  iapply (Rounds.wp_wait_rest_token 𝒱₀ ER (Rd A D) (c : Thread nD τ) none (κ := K (c, some (k, q)))
      hw (Set.mem_univ _) () (O := O) (W := W) (R := 0) (m := 0) (T := ∅)
      (by rw [Nat.zero_add, expect_x A D k hq])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_x A D k hq)) $$ Hpay
  imod (Rounds.cell_close ER (Rd A D) (Set.mem_univ (K (c, some (k, q)))) (fun h => h) (R := 0 + 1) (duties_later A D (dCell k c q))) $$ [Hat] with Hz
  · isplitr; · iexact HI
    iexact Hat
  iapply Hk $$ Hp Hz
  iexists _
  iexact HO

/-- The cell of the device's own place has no duty: it closes unused. -/
theorem close_x (k : Fin 4) (c : Dev nD) :
    iprop(records A D K ∗ atPos ER (dCell k c c) 0 ∅ 0) ⊢ iprop(|={Set.univ}=> semVal (dCell k c c) 0) := by
  iintro ⟨#HR, Hat⟩
  ihave Hr := (records_x A D K k c c) $$ HR
  icases Hr with ⟨#HI, #Hm⟩
  iapply (Rounds.cell_close ER (Rd A D) (Set.mem_univ (K (c, some (k, c)))) (fun h => h) (R := 0)
    (fun r _ => by
      rcases Nat.eq_zero_or_pos r with rfl | h
      · exact duties_x_eq A D k c
      · exact duties_later A D _ r h))
  isplitr; · iexact HI
  iexact Hat

end Records
end Cert.KernelIdeal.Reduce
-- ==== Proof.KernelIdeal.Waits.lean ====
/-
# The barrier, the receives and the output's row blocks

The steps of the body beside the sends: a signal to a neighbour's barrier, the barrier wait, a wait for a block of
phase 1, the two kinds of store into the output, and the waits for a device's own sends.
-/
module

public import proofs.«01_k».proof.Proof.KernelIdeal.Steps

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every transfer is of a block of 128x512 and credits the same amount. -/
theorem credit_slot_a (s : Fin 4) : (slotM aM s).view.dmaCredit = N := rfl
theorem credit_slot_b (s : Fin 4) : (slotM bM s).view.dmaCredit = N := rfl
theorem credit_rows (s : Fin 4) : (rowsM pM s).view.dmaCredit = N := rfl
theorem credit_d : dM.view.dmaCredit = N := rfl

section Waits
variable (A : Dev nD → Dev nD → Vec F S128x512 .bf16) (D : Dev nD → Vec F S128x512 .bf16) (K : Dev nD × CK → ℕ)

/-- `wait_x` for the operation the body waits with. -/
theorem wait_dma (k : Fin 4) (c q : Dev nD) (hq : c ≠ q) (O : CellTallies nD τ sig Unit)
    (hO : (levAts L lv : sProp 𝕄) ⊢ MayWait (c : Thread nD τ) (.dma (dsem k q)) () O)
    {s s' : Shape} {src : Memref sig .tc .vmem s' .bf16} {dst : Memref sig .tc .vmem s .bf16} {w1 : src.view.WordExact} {w2 : dst.view.WordExact}
    (hn : dst.view.dmaCredit = N)
    {α : Type} {kt : PUnit → Prog (TpuEff nD τ sig (Elt F) Λ₀ .tc) α} {Q : α → sProp 𝕄} :
    iprop(records A D K ∗ levAts L lv ∗ cred (tallyAt (dCell k c q) () N) ∗ atPos ER (dCell k c q) 0 ∅ 0 ∗ ow c O
        ∗ (xPay A D k c q -∗ semVal (dCell k c q) 0 -∗ ow c O -∗ WP c (kt ⟨⟩) Q))
      ⊢ WP c (.op (.waitDma2 (dsem k q) src dst w1 w2) kt) Q :=
  wait_x A D K k c q hq O hO
    (fun Kt => (wpE_waitDma2_eq 𝒱₀ (c : Thread nD τ) none Set.univ Kt).trans (by rw [hn]))

/-- A signal to device `p`'s barrier: the slots of the own landing buffers that `p` writes go with it. -/
theorem signal_step (c p : Dev nD) {dv : ℕ} {hdv : dv < nD} (hp : (⟨dv, hdv⟩ : Dev nD) = p) (hcp : c ≠ p) {B S₁ S₂ : Finset (Dev nD)} (hB : p ∈ B)
    {α : Type} {k : PUnit → Prog (TpuEff nD τ sig (Elt F) Λ₀ .tc) α} {Q : α → sProp 𝕄} :
    iprop(records A D K ∗ dutyTok ER (barCell p) 0 c ∗ aAny c p ∗ bAny c p ∗ ow c (OW c B S₁ S₂)
        ∗ (ow c (OW c (B.erase p) S₁ S₂) -∗ WP c (k ⟨⟩) Q))
      ⊢ WP c (semSignalWord (⟨dv, hdv⟩ : Dev nD) barS 1#32 >>= k) Q := by
  subst hp
  unfold ow
  rw [semSignalWord, Prog.bind_op]
  simp only [Prog.bind_ret]
  iintro ⟨#HR, Ht, Ha, Hb, ⟨%W, HO⟩, Hk⟩
  ihave Hr := (records_bar A D K (⟨dv, hdv⟩ : Dev nD)) $$ HR
  icases Hr with ⟨#HI, #Hm⟩
  iapply (Rounds.wp_signal 𝒱₀ ER (Rd A D) (c : Thread nD τ) none (κ := K ((⟨dv, hdv⟩ : Dev nD), none)) (r := 0) (d := c)
    (by rw [duties_bar]; exact Finset.mem_erase.mpr ⟨hcp, Finset.mem_univ _⟩)
    ((amount_bar A D _ c).trans (by decide)) () (OW c (B.erase ⟨dv, hdv⟩) S₁ S₂) (OW_bar c _ hB) (W := W)) $$ [Ha Hb HO Ht]
  · isplitr; · iexact HI
    isplitl [HO]; · iexact HO
    isplitl [Ht]; · iexact Ht
    isplitl [Ha Hb]
    · rw [payload_bar]; unfold barPay
      isplitl [Ha]; · iexact Ha
      iexact Hb
    iexact Hm
  iintro HO
  iapply Hk
  iexists W
  iexact HO

/-- The barrier wait: every other device's slots for this device, the barrier cell closed. -/
theorem barrier_step (c : Dev nD) {S₁ S₂ : Finset (Dev nD)}
    {α : Type} {k : PUnit → Prog (TpuEff nD τ sig (Elt F) Λ₀ .tc) α} {Q : α → sProp 𝕄} :
    iprop(records A D K ∗ levAts L lv ∗ cred (tallyAt (barCell c) () 3) ∗ atPos ER (barCell c) 0 ∅ 0 ∗ ow c (OW c ∅ S₁ S₂)
        ∗ (bigSep (Finset.univ.erase c) (fun d => barPay c d) -∗ semVal (barCell c) 0 -∗ ow c (OW c ∅ S₁ S₂) -∗ WP c (k ⟨⟩) Q))
      ⊢ WP c (semWaitWord barS 3#32 >>= k) Q := by
  unfold ow
  rw [semWaitWord, Prog.bind_op]
  simp only [Prog.bind_ret]
  iintro ⟨#HR, #Hlev, Hc, Hat, ⟨%W, HO⟩, Hk⟩
  ihave Hr := (records_bar A D K c) $$ HR
  icases Hr with ⟨#HI, #Hm⟩
  iapply (Rounds.wp_wait_rest_token 𝒱₀ ER (Rd A D) (c : Thread nD τ) none (κ := K (c, none))
      (wpE_semWait_eq 𝒱₀ (c : Thread nD τ) none Set.univ) (Set.mem_univ _) () (O := OW c ∅ S₁ S₂) (W := W) (R := 0) (m := 0) (T := ∅)
      (by rw [expect_bar]; decide)) $$ [Hc HO Hat]
  · isplitr; · iexact HI
    isplitl [Hc]; · iexact Hc
    isplitl [HO]; · iexact HO
    isplitr
    · iapply (mayWait_cut c (.reg barS) ∅ S₁ S₂ 1 (le_of_eq (lv_bar c)) (fun h => absurd h Finset.not_nonempty_empty) (fun _ => by decide) (fun _ => by decide))
      iexact Hlev
    iexact Hat
  iintro ⟨HO, Hat, -, Hpay⟩
  ihave Hp := (Entails.of_eq (rest_bar A D c)) $$ Hpay
  imod (Rounds.cell_close ER (Rd A D) (Set.mem_univ (K (c, none))) (fun h => h) (R := 0 + 1) (duties_later A D (barCell c))) $$ [Hat] with Hz
  · isplitr; · iexact HI
    iexact Hat
  iapply Hk $$ Hp Hz
  iexists _
  iexact HO

/-- A wait for device `s`'s block of phase 1, unless `s` is the device itself: slot `s` holds its block either way. -/
theorem recv_one_step (c s : Dev nD) {cond : BitVec 1} (hc : cond = 1#1 ↔ c ≠ s) (S₂ : Finset (Dev nD))
    {w1 : (rowsM pM 0).view.WordExact} {w2 : (slotM aM s).view.WordExact}
    {α : Type} {k : PUnit → Prog (TpuEff nD τ sig (Elt F) Λ₀ .tc) α} {Q : α → sProp 𝕄} :
    iprop(records A D K ∗ levAts L lv ∗ (if c = s then aPts c s (aVal A c) else cred (tallyAt (dCell 1 c s) () N))
        ∗ atPos ER (dCell 1 c s) 0 ∅ 0 ∗ ow c (OW c ∅ ∅ S₂)
        ∗ (aPts c s (aVal A c) -∗ semVal (dCell 1 c s) 0 -∗ ow c (OW c ∅ ∅ S₂) -∗ WP c (k ⟨⟩) Q))
      ⊢ WP c (if h : cond = 1#1 then do
            Prog.lift (.waitDma2 (((dArr 1).slice (Rect.unit (s := S4) ![s.val] S1.size (inbSem s))).squeeze S_ squeezes_S1_S_).sem (rowsM pM 0) (slotM aM s) w1 w2)
            k ⟨⟩
          else k ⟨⟩) Q := by
  by_cases hq : c = s
  · subst hq
    rw [if_pos rfl, dif_neg (fun h => hc.mp h rfl)]
    iintro ⟨#HR, -, Ha, Hat, HO, Hk⟩
    imod (close_x A D K 1 c) $$ [Hat] with Hz
    · isplitr; · iexact HR
      iexact Hat
    iapply Hk $$ Ha Hz HO
  · rw [if_neg hq, dif_pos (hc.mpr hq)]
    simp only [Prog.lift, Prog.bind_op, Prog.bind_ret, Prog.pure_eq_ret]
    iintro ⟨#HR, #Hlev, Hc, Hat, HO, Hk⟩
    iapply (wait_dma A D K 1 c s hq (OW c ∅ ∅ S₂)
      (mayWait_cut c _ ∅ ∅ S₂ 2 (le_of_eq (lv_one c s)) (fun h => absurd h Finset.not_nonempty_empty) (fun h => absurd h Finset.not_nonempty_empty) (fun _ => by decide))
      (credit_slot_a s))
    isplitr; · iexact HR
    isplitr; · iexact Hlev
    isplitl [Hc]; · iexact Hc
    isplitl [Hat]; · iexact Hat
    isplitl [HO]; · iexact HO
    unfold xPay
    iexact Hk

section Out
variable (OUT : Fin 4 → Vec F S128x512 .bf16)

/-- The device's own row block of the output, stored when `s` is the device itself. -/
theorem own_out_step (c s : Dev nD) {cond : BitVec 1} (hc : cond = 1#1 ↔ c = s)
    (v : Vec F S128x512 .bf16) (hv : c = s → v = OUT s)
    {pl : oM.view.LoadsAt (rRows s).toLoadRect} {ps : (oM.access (rRows s)).Stores Finset.univ} {pe}
    {α : Type} {k : PUnit → Prog (TpuEff nD τ sig (Elt F) Λ₀ .tc) α} {Q : α → sProp 𝕄} :
    iprop(oAny (F := F) c s ∗ ((if c = s then oPts c s (blocks OUT) else oAny c s) -∗ WP c (k ⟨⟩) Q))
      ⊢ WP c (if h : cond = 1#1 then do
            let _ ← Prog.lift (.load oM (rRows s).toLoadRect pl)
            Prog.lift (.store oM (rRows s) v Finset.univ ps pe)
            k ⟨⟩
          else k ⟨⟩) Q := by
  by_cases hq : c = s
  · rw [if_pos hq, dif_pos (hc.mpr hq)]
    simp only [Prog.lift, Prog.bind_op, Prog.bind_ret, Prog.pure_eq_ret]
    unfold oAny oPts
    iintro ⟨⟨%f, H⟩, Hk⟩
    iapply (wp_load 𝒱₀ (c : Thread nD τ) none Set.univ (m := oM) (oM_load s)) $$ H; iintro H
    iapply (wp_store 𝒱₀ (c : Thread nD τ) none Set.univ (m := oM) (r := rRows s) (Mk := Finset.univ) (oM_store s)) $$ H; iintro H
    iapply Hk
    ihave H := (Entails.of_eq (pointsTo_congr (g := (blocks OUT : Vec F S512x512 .bf16)) (write_rows OUT s f v (hv hq)))) $$ H
    iexact H
  · rw [if_neg hq, dif_neg (fun h => hq (hc.mp h))]
    iintro ⟨H, Hk⟩
    iapply Hk
    iexact H

/-- Another device's row block of the output: the wait for its reduced rows, their load, the store. -/
theorem recv_two_step (c s : Dev nD) {cond : BitVec 1} (hc : cond = 1#1 ↔ c ≠ s)
    (g : Vec F S1x128x512 .bf16 → Vec F S128x512 .bf16) (hg : c ≠ s → g (lift (D s)) = OUT s)
    {w1 : dM.view.WordExact} {w2 : (slotM bM s).view.WordExact}
    {plb : bM.view.LoadsAt (rSlot s).toLoadRect}
    {pl : oM.view.LoadsAt (rRows s).toLoadRect} {ps : (oM.access (rRows s)).Stores Finset.univ} {pe}
    {α : Type} {k : PUnit → Prog (TpuEff nD τ sig (Elt F) Λ₀ .tc) α} {Q : α → sProp 𝕄} :
    iprop(records A D K ∗ levAts L lv ∗ (if c = s then oPts c s (blocks OUT) else oAny c s)
        ∗ (if c = s then bAny c s else cred (tallyAt (dCell 3 c s) () N))
        ∗ atPos ER (dCell 3 c s) 0 ∅ 0 ∗ ow c (OW c ∅ ∅ ∅)
        ∗ (oPts c s (blocks OUT) -∗ bAny c s -∗ semVal (dCell 3 c s) 0 -∗ ow c (OW c ∅ ∅ ∅) -∗ WP c (k ⟨⟩) Q))
      ⊢ WP c (if h : cond = 1#1 then do
            Prog.lift (.waitDma2 (((dArr 3).slice (Rect.unit (s := S4) ![s.val] S1.size (inbSem s))).squeeze S_ squeezes_S1_S_).sem dM (slotM bM s) w1 w2)
            let y : Vec F S1x128x512 .bf16 ← Prog.lift (.load bM (rSlot s).toLoadRect plb)
            let _ ← Prog.lift (.load oM (rRows s).toLoadRect pl)
            Prog.lift (.store oM (rRows s) (g y) Finset.univ ps pe)
            k ⟨⟩
          else k ⟨⟩) Q := by
  by_cases hq : c = s
  · subst hq
    rw [if_pos rfl, if_pos rfl, dif_neg (fun h => hc.mp h rfl)]
    iintro ⟨#HR, -, Ho, Hb, Hat, HO, Hk⟩
    imod (close_x A D K 3 c) $$ [Hat] with Hz
    · isplitr; · iexact HR
      iexact Hat
    iapply Hk $$ Ho Hb Hz HO
  · rw [if_neg hq, if_neg hq, dif_pos (hc.mpr hq)]
    simp only [Prog.lift, Prog.bind_op, Prog.bind_ret, Prog.pure_eq_ret]
    unfold oAny oPts
    iintro ⟨#HR, #Hlev, ⟨%f, H⟩, Hc, Hat, HO, Hk⟩
    iapply (wait_dma A D K 3 c s hq (OW c ∅ ∅ ∅)
      (mayWait_cut c _ ∅ ∅ ∅ 3 (le_of_eq (lv_two c s)) (fun h => absurd h Finset.not_nonempty_empty) (fun h => absurd h Finset.not_nonempty_empty) (fun h => absurd h Finset.not_nonempty_empty)) (credit_slot_b s))
    isplitr; · iexact HR
    isplitr; · iexact Hlev
    isplitl [Hc]; · iexact Hc
    isplitl [Hat]; · iexact Hat
    isplitl [HO]; · iexact HO
    unfold xPay bPts
    iintro Hb Hz HO
    iapply (wp_load 𝒱₀ (c : Thread nD τ) none Set.univ (m := bM) (bM_load s)) $$ Hb; iintro Hb
    rw [read_slot_b]
    iapply (wp_load 𝒱₀ (c : Thread nD τ) none Set.univ (m := oM) (oM_load s)) $$ H; iintro H
    iapply (wp_store 𝒱₀ (c : Thread nD τ) none Set.univ (m := oM) (r := rRows s) (Mk := Finset.univ) (oM_store s)) $$ H; iintro H
    ihave H := (Entails.of_eq (pointsTo_congr (g := (blocks OUT : Vec F S512x512 .bf16)) (write_rows OUT s f _ (hg hq)))) $$ H
    iapply Hk $$ H [Hb] Hz HO
    unfold bAny bPts
    iexists _
    iexact Hb

end Out

/-- The waits for the two blocks sent to device `t`: the row block and the share of the reduced rows come back. -/
theorem sent_step (c t : Dev nD) {cond : BitVec 1} (hc : cond = 1#1 ↔ c ≠ t)
    {mA mB : cond = 1#1 → Memref sig .tc .vmem S128x512 .bf16}
    {w1 : ∀ h, (mA h).view.WordExact} {w2 : cond = 1#1 → (rowsM pM t).view.WordExact} {w3 : ∀ h, (mB h).view.WordExact} {w4 : cond = 1#1 → dM.view.WordExact}
    {α : Type} {k : PUnit → Prog (TpuEff nD τ sig (Elt F) Λ₀ .tc) α} {Q : α → sProp 𝕄} :
    iprop(records A D K ∗ levAts L lv ∗ (if c = t then pAny c t else cred (tallyAt (dCell 0 c t) () N))
        ∗ (if c = t then dPts c t (D c) else cred (tallyAt (dCell 2 c t) () N))
        ∗ atPos ER (dCell 0 c t) 0 ∅ 0 ∗ atPos ER (dCell 2 c t) 0 ∅ 0 ∗ ow c (OW c ∅ ∅ ∅)
        ∗ (pAny c t -∗ dPts c t (D c) -∗ semVal (dCell 0 c t) 0 -∗ semVal (dCell 2 c t) 0 -∗ ow c (OW c ∅ ∅ ∅) -∗ WP c (k ⟨⟩) Q))
      ⊢ WP c (if h : cond = 1#1 then do
            Prog.lift (.waitDma2 (((dArr 0).slice (Rect.unit (s := S4) ![t.val] S1.size (inbSem t))).squeeze S_ squeezes_S1_S_).sem (mA h) (rowsM pM t) (w1 h) (w2 h))
            Prog.lift (.waitDma2 (((dArr 2).slice (Rect.unit (s := S4) ![t.val] S1.size (inbSem t))).squeeze S_ squeezes_S1_S_).sem (mB h) dM (w3 h) (w4 h))
            k ⟨⟩
          else k ⟨⟩) Q := by
  have hmay : ∀ k : Fin 4, k ≠ 1 → k ≠ 3 → ((levAts L lv : sProp 𝕄) ⊢ MayWait (c : Thread nD τ) (.dma (dsem k t)) () (OW c ∅ ∅ ∅)) := fun k h1 h3 =>
    mayWait_cut c _ ∅ ∅ ∅ 0 (le_of_eq (lv_low _ (dma_ne_bar k t) (fun q h => h1 (dma_eq h).1) (fun q h => h3 (dma_eq h).1)))
      (fun h => absurd h Finset.not_nonempty_empty) (fun h => absurd h Finset.not_nonempty_empty) (fun h => absurd h Finset.not_nonempty_empty)
  by_cases hq : c = t
  · subst hq
    rw [if_pos rfl, if_pos rfl, dif_neg (fun h => hc.mp h rfl)]
    iintro ⟨#HR, -, Hp, Hd, Hat0, Hat2, HO, Hk⟩
    imod (close_x A D K 0 c) $$ [Hat0] with Hz0
    · isplitr; · iexact HR
      iexact Hat0
    imod (close_x A D K 2 c) $$ [Hat2] with Hz2
    · isplitr; · iexact HR
      iexact Hat2
    iapply Hk $$ Hp Hd Hz0 Hz2 HO
  · rw [if_neg hq, if_neg hq, dif_pos (hc.mpr hq)]
    simp only [Prog.lift, Prog.bind_op, Prog.bind_ret, Prog.pure_eq_ret]
    iintro ⟨#HR, #Hlev, Hc0, Hc2, Hat0, Hat2, HO, Hk⟩
    iapply (wait_dma A D K 0 c t hq (OW c ∅ ∅ ∅) (hmay 0 (by decide) (by decide)) (credit_rows t))
    isplitr; · iexact HR
    isplitr; · iexact Hlev
    isplitl [Hc0]; · iexact Hc0
    isplitl [Hat0]; · iexact Hat0
    isplitl [HO]; · iexact HO
    unfold xPay
    iintro Hp Hz0 HO
    iapply (wait_dma A D K 2 c t hq (OW c ∅ ∅ ∅) (hmay 2 (by decide) (by decide)) (credit_d))
    isplitr; · iexact HR
    isplitr; · iexact Hlev
    isplitl [Hc2]; · iexact Hc2
    isplitl [Hat2]; · iexact Hat2
    isplitl [HO]; · iexact HO
    unfold xPay
    iintro Hd Hz2 HO
    iapply Hk $$ Hp Hd Hz0 Hz2 HO

end Waits
end Cert.KernelIdeal.Reduce
-- ==== Proof.KernelIdeal.Parts.lean ====
/-
# The six parts of the body

Each part of the body at a symbolic device: what it needs, what it leaves. The contents are the caller's: the parts'
values enter by the equations they satisfy.
-/
module

public import proofs.«01_k».proof.Proof.KernelIdeal.Waits

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's place, as the body computes it. -/
def place (c : Dev nD) : BitVec 32 := Scalar.remsi (Scalar.divsi (Dev.word c) 1#32) 4#32

/-- The two kinds of condition on a place: "it is `q`" and "it is not `q`". -/
theorem is_place (c q : Dev nD) : Scalar.cmpi .ne (Scalar.extui (Scalar.cmpi .eq (place c) (BitVec.ofNat 32 q.val)) : BitVec 32) 0#32 = 1#1 ↔ c = q := by
  revert c q; decide
theorem not_place (c q : Dev nD) : Scalar.cmpi .ne (Scalar.extui (Scalar.cmpi .ne (place c) (BitVec.ofNat 32 q.val)) : BitVec 32) 0#32 = 1#1 ↔ c ≠ q := by
  revert c q; decide

/-- The other three devices. -/
abbrev others (c : Dev nD) : Finset (Dev nD) := Finset.univ.erase c

theorem others_done (c : Dev nD) : ((((others c).erase 0).erase 1).erase 2).erase 3 = ∅ := by revert c; decide
theorem signals_done (c : Dev nD) : (((others c).erase (c + 1)).erase (c + 2)).erase (c + 3) = ∅ := by revert c; decide

theorem next_ne (c : Dev nD) : c ≠ c + 1 ∧ c ≠ c + 2 ∧ c ≠ c + 3 := by revert c; decide
theorem next_in (c : Dev nD) : c + 1 ∈ others c ∧ c + 2 ∈ (others c).erase (c + 1) ∧ c + 3 ∈ ((others c).erase (c + 1)).erase (c + 2) := by revert c; decide

theorem cond2 (c : Dev nD) : k0_cond2 c = 1#1 ↔ c ≠ 0 := by revert c; decide
theorem cond4 (c : Dev nD) : k0_cond4 c = 1#1 ↔ c ≠ 1 := by revert c; decide
theorem cond6 (c : Dev nD) : k0_cond6 c = 1#1 ↔ c ≠ 2 := by revert c; decide
theorem cond8 (c : Dev nD) : k0_cond8 c = 1#1 ↔ c ≠ 3 := by revert c; decide
theorem left0 (c : Dev nD) : c ≠ 0 → 0 ∈ others c := by revert c; decide
theorem left1 (c : Dev nD) : c ≠ 1 → 1 ∈ (others c).erase 0 := by revert c; decide
theorem left2 (c : Dev nD) : c ≠ 2 → 2 ∈ ((others c).erase 0).erase 1 := by revert c; decide
theorem left3 (c : Dev nD) : c ≠ 3 → 3 ∈ (((others c).erase 0).erase 1).erase 2 := by revert c; decide
theorem own0 (c : Dev nD) : c ∉ others c := by revert c; decide
theorem own1 (c : Dev nD) : c ∉ (others c).erase 0 := by revert c; decide
theorem own2 (c : Dev nD) : c ∉ ((others c).erase 0).erase 1 := by revert c; decide
theorem own3 (c : Dev nD) : c ∉ (((others c).erase 0).erase 1).erase 2 := by revert c; decide

/-- What the other devices hold, place by place. -/
theorem others_four (c : Dev nD) (f : Dev nD → sProp 𝕄) :
    bigSep (others c) f = iprop((if c = 0 then iprop(emp) else f 0) ∗ (if c = 1 then iprop(emp) else f 1) ∗ (if c = 2 then iprop(emp) else f 2) ∗ (if c = 3 then iprop(emp) else f 3)) := by
  have h : others c = Finset.univ.filter fun d => c ≠ d := by revert c; decide
  rw [h, bigSep_filter, show (Finset.univ : Finset (Dev nD)) = {0, 1, 2, 3} by decide, bigSep_insert (by decide), bigSep_insert (by decide), bigSep_insert (by decide), bigSep_singleton]
  simp only [ne_eq, ite_not]
  rfl
/-- The other devices, next first. -/
theorem others_next (c : Dev nD) (f : Dev nD → sProp 𝕄) : bigSep (others c) f = iprop(f (c + 1) ∗ f (c + 2) ∗ f (c + 3)) := by
  have h : others c = {c + 1, c + 2, c + 3} := by revert c; decide
  rw [h, bigSep_insert (by revert c; decide), bigSep_insert (by revert c; decide), bigSep_singleton]
  rfl
theorem four (f : Fin 4 → sProp 𝕄) : bigSep Finset.univ f = iprop(f 0 ∗ f 1 ∗ f 2 ∗ f 3) := by
  rw [show (Finset.univ : Finset (Fin 4)) = {0, 1, 2, 3} by decide, bigSep_insert (by decide), bigSep_insert (by decide), bigSep_insert (by decide), bigSep_singleton]
  rfl

/-- A device asks which it is. -/
theorem device_step (c : Dev nD) {α : Type} {k : Dev nD → Prog (TpuEff nD τ sig (Elt F) Λ₀ .tc) α} {Q : α → sProp 𝕄} :
    WP c (k c) Q ⊢ WP c (Prog.lift .deviceId >>= k) Q := by
  simp only [Prog.lift, Prog.bind_op, Prog.bind_ret, wp_deviceId]
  exact Entails.rfl
/-- A load, by what it reads. -/
theorem load_step (c : Dev nD) {s : Shape} {e : EltTy} {m : Memref sig .tc .vmem s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) (y : r.shape.Idx → Elt F e) (hy : m.view.readAt (Elt F) r f = y)
    {α : Type} {k : (r.shape.Idx → Elt F e) → Prog (TpuEff nD τ sig (Elt F) Λ₀ .tc) α} {Q : α → sProp 𝕄} :
    iprop((m.view.loc (c : Thread nD τ) ↦[S]{q} f) ∗ ((m.view.loc (c : Thread nD τ) ↦[S]{q} f) -∗ WP c (k y) Q))
      ⊢ WP c (Prog.lift (.load m r hl) >>= k) Q := by
  subst hy
  simp only [Prog.lift, Prog.bind_op, Prog.bind_ret]
  iintro ⟨H, Hk⟩
  iapply (wp_load 𝒱₀ (c : Thread nD τ) none Set.univ (m := m) hS) $$ H
  iexact Hk
/-- A store, by what it leaves. -/
theorem store_step (c : Dev nD) {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))}
    (hS : (m.access r).setOn Finset.univ ⊆ S) (y : Buf (Elt F) ((m.access r).loc (c : Thread nD τ))) (hy : (m.access r).write (Elt F) f w Finset.univ = y)
    {α : Type} {k : PUnit → Prog (TpuEff nD τ sig (Elt F) Λ₀ .tc) α} {Q : α → sProp 𝕄} :
    iprop(((m.access r).loc (c : Thread nD τ) ↦[S]{fullShare} f) ∗ (((m.access r).loc (c : Thread nD τ) ↦[S]{fullShare} y) -∗ WP c (k ⟨⟩) Q))
      ⊢ WP c (Prog.lift (.store m r w Finset.univ hx hm) >>= k) Q := by
  subst hy
  simp only [Prog.lift, Prog.bind_op, Prog.bind_ret]
  iintro ⟨H, Hk⟩
  iapply (wp_store 𝒱₀ (c : Thread nD τ) none Set.univ (m := m) (r := r) (Mk := Finset.univ) hS) $$ H
  iexact Hk
theorem ret_step (c : Dev nD) {α : Type} (a : α) {Q : α → sProp 𝕄} : Q a ⊢ WP c (pure a : Prog (TpuEff nD τ sig (Elt F) Λ₀ .tc) α) Q := by
  rw [Prog.pure_eq_ret]
  unfold WP
  rw [wp_ret]
  iintro H
  imodintro
  iexact H

theorem hz2 : (![0, 0] : Fin 2 → ℕ) = fun _ => 0 := funext fun a => by fin_cases a <;> rfl

/-- A staging buffer of device `c`, whole, at contents `f`. -/
abbrev stg (c : Dev nD) (b : Ref sig .tc) (f : Buf (Elt F) ((c : Thread nD τ).loc b)) : sProp 𝕄 := ((c : Thread nD τ).loc b) ↦[Finset.univ]{fullShare} f

/-- The device's matrix of expert `k`, as the body loads it. -/
def matK (k : Fin 2) (ew : Vec F S2x256x512 .bf16) : Vec F S1x256x512 .bf16 := fun x => ew (ix3 k (x 1) (x 2))

section Parts
variable (A : Dev nD → Dev nD → Vec F S128x512 .bf16) (D : Dev nD → Vec F S128x512 .bf16) (K : Dev nD × CK → ℕ)

/-- Slot `q` of phase 1 before the own block is stored: the own slot, or the credit for the block to come. -/
abbrev In1 (c q : Dev nD) : sProp 𝕄 := if c = q then aAny c q else cred (tallyAt (dCell 1 c q) () N)
/-- And after. -/
abbrev In1' (c q : Dev nD) : sProp 𝕄 := if c = q then aPts c q (aVal A c) else cred (tallyAt (dCell 1 c q) () N)
/-- Slot `q` of phase 2: the own slot, never used, or the credit for the block to come. -/
abbrev In2 (c q : Dev nD) : sProp 𝕄 := if c = q then bAny c q else cred (tallyAt (dCell 3 c q) () N)
/-- The right to send phase 1's block to `q`. -/
abbrev Go1 (c q : Dev nD) : sProp 𝕄 := if c = q then iprop(emp) else iprop(dutyTok ER (dCell 0 c q) 0 q ∗ dutyTok ER (dCell 1 q c) 0 c ∗ aAny (F := F) q c)
/-- The right to send phase 2's block to `q`. -/
abbrev Go2 (c q : Dev nD) : sProp 𝕄 := if c = q then iprop(emp) else iprop(dutyTok ER (dCell 2 c q) 0 q ∗ dutyTok ER (dCell 3 q c) 0 c ∗ bAny (F := F) q c)
/-- Row block `q` on its way. -/
abbrev Sent1 (c q : Dev nD) : sProp 𝕄 := if c = q then pAny c q else cred (tallyAt (dCell 0 c q) () N)
/-- A share of the reduced rows on its way. -/
abbrev Sent2 (c q : Dev nD) : sProp 𝕄 := if c = q then dPts c q (D c) else cred (tallyAt (dCell 2 c q) () N)

/-- The load of expert `k`'s matrix. -/
theorem read_mat (k : Fin 2) (inb : ∀ a, (![k.val, 0, 0] : Fin 3 → ℕ) a + S1x256x512.size a ≤ S2x256x512.size a) (ew : Vec F S2x256x512 .bf16) :
    eM.view.readAt (Elt F) (Rect.unit (s := S2x256x512) ![k.val, 0, 0] S1x256x512.size inb).toLoadRect ew = matK k ew := by
  funext x
  show ew ((Rect.unit (s := S2x256x512) ![k.val, 0, 0] S1x256x512.size inb).emb x) = ew (ix3 k (x 1) (x 2))
  congr 1
  funext a
  apply Fin.ext
  have h0 : (x 0).val = 0 := Nat.lt_one_iff.mp (x 0).2
  match a with
  | ⟨0, _⟩ => show k.val + 1 * (x 0).val = k.val; omega
  | ⟨1, _⟩ => show 0 + 1 * (x 1).val = (x 1).val; omega
  | ⟨2, _⟩ => show 0 + 1 * (x 2).val = (x 2).val; omega

variable (h0 : xM.IsWhole) (h1 : rM.IsWhole) (h2 : iM.IsWhole) (h3 : eM.IsWhole) (h4 : wM.IsWhole) (h5 : oM.IsWhole) (h6 : pM.IsWhole)
  (h7 : aM.IsWhole) (h8 : dM.IsWhole) (h9 : bM.IsWhole)

/-- What a signal to device `p` takes: the duty's token and the own slots `p` writes. -/
abbrev Tb (c p : Dev nD) : sProp 𝕄 := iprop(dutyTok ER (barCell p) 0 c ∗ aAny (F := F) c p ∗ bAny (F := F) c p)
/-- The tokens of the two cells a transfer to `q` credits, of phase 1 and of phase 2. -/
abbrev Tk1 (c q : Dev nD) : sProp 𝕄 := iprop(dutyTok ER (dCell 0 c q) 0 q ∗ dutyTok ER (dCell 1 q c) 0 c)
abbrev Tk2 (c q : Dev nD) : sProp 𝕄 := iprop(dutyTok ER (dCell 2 c q) 0 q ∗ dutyTok ER (dCell 3 q c) 0 c)

/-- The tokens and what the barrier's wait delivers make the rights to send. -/
theorem go_intro (c q : Dev nD) :
    iprop((if c = q then iprop(emp) else iprop(Tk1 (F := F) c q ∗ Tk2 (F := F) c q)) ∗ (if c = q then iprop(emp) else barPay (F := F) c q)) ⊢ iprop(Go1 (F := F) c q ∗ Go2 (F := F) c q) := by
  unfold barPay
  by_cases h : c = q
  · rw [if_pos h, if_pos h]
    unfold Go1 Go2
    rw [if_pos h, if_pos h]
  · rw [if_neg h, if_neg h]
    unfold Go1 Go2
    rw [if_neg h, if_neg h]
    iintro ⟨⟨⟨H0, H1⟩, H2, H3⟩, Ha, Hb⟩
    isplitl [H0 H1 Ha]
    · isplitl [H0]; · iexact H0
      isplitl [H1]; · iexact H1
      iexact Ha
    · isplitl [H2]; · iexact H2
      isplitl [H3]; · iexact H3
      iexact Hb

/-- The reduced rows' buffer as four quarter shares. -/
theorem d_split (c : Dev nD) (f : Vec F S128x512 .bf16) :
    (stg c cc0_scratch2 f : sProp 𝕄) ⊣⊢ iprop(dPts c 0 f ∗ dPts c 1 f ∗ dPts c 2 f ∗ dPts c 3 f) := by
  have e : ∀ q : PosShare TreeShare, (((c : Thread nD τ).loc cc0_scratch2) ↦[Finset.univ]{q} f : sProp 𝕄)
      ⊣⊢ iprop((((c : Thread nD τ).loc cc0_scratch2) ↦[Finset.univ]{q.left} f) ∗ ((c : Thread nD τ).loc cc0_scratch2) ↦[Finset.univ]{q.right} f) :=
    fun q => pointsTo_share (PosShare.mem_left_op_right q)
  unfold dPts sh
  constructor
  · iintro H
    ihave H := (e fullShare).1 $$ H
    icases H with ⟨Hl, Hr⟩
    ihave Hl := (e _).1 $$ Hl
    icases Hl with ⟨H0, H1⟩
    ihave Hr := (e _).1 $$ Hr
    icases Hr with ⟨H2, H3⟩
    isplitl [H0]; · iexact H0
    isplitl [H1]; · iexact H1
    isplitl [H2]; · iexact H2
    iexact H3
  · iintro ⟨H0, H1, H2, H3⟩
    iapply (e fullShare).2
    isplitl [H0 H1]
    · iapply (e _).2
      isplitl [H0]; · iexact H0
      iexact H1
    · iapply (e _).2
      isplitl [H2]; · iexact H2
      iexact H3

/-- Part 1: the three signals, the loads of the tokens and the router's weights. -/
theorem part1 (c : Dev nD) (x : Vec F S512x256 .bf16) (r : Vec F S256x8 .bf16)
    {Q : (Σ' (_ : Dev nD) (_ : BitVec 32) (_ : Sems sig S_) (_ : FVec F S512x256 .bf16), FVec F S512x8 .f32) → sProp 𝕄} :
    iprop(records A D K ∗ Tb (F := F) c (c + 1) ∗ Tb (F := F) c (c + 2) ∗ Tb (F := F) c (c + 3) ∗ ow c (OW c (others c) (others c) (others c))
        ∗ stg c cc0_stg0_0 x ∗ stg c cc0_stg1_0 r
        ∗ (ow c (OW c ∅ (others c) (others c)) -∗ stg c cc0_stg0_0 x -∗ stg c cc0_stg1_0 r
          -∗ Q ⟨c, place c, SemArray.scalar (sig.barrier 0 rfl), k0_pay1 x, k0_pay2 x r⟩))
      ⊢ WP c (k0_part1 xM h0 rM h1 iM h2 eM h3 wM h4 oM h5 pM h6 aM h7 dM h8 bM h9 cc0_scratch4 cc0_scratch5 cc0_scratch6 cc0_scratch7) Q := by
  rw [k0_part1_eq_skeleton]
  unfold k0_part1_skel place
  iintro ⟨#HR, ⟨Ht1, Ha1, Hb1⟩, ⟨Ht2, Ha2, Hb2⟩, ⟨Ht3, Ha3, Hb3⟩, HO, Hx, Hr, Hk⟩
  iapply (device_step c)
  dsimp only
  iapply (signal_step A D K c (c + 1) (Fin.ext (k0_dev1_eq c)) (next_ne c).1 (B := others c) (next_in c).1)
  isplitr; · iexact HR
  isplitl [Ht1]; · iexact Ht1
  isplitl [Ha1]; · iexact Ha1
  isplitl [Hb1]; · iexact Hb1
  isplitl [HO]; · iexact HO
  iintro HO
  iapply (signal_step A D K c (c + 2) (Fin.ext (k0_dev2_eq c)) (next_ne c).2.1 (B := (others c).erase (c + 1)) (next_in c).2.1)
  isplitr; · iexact HR
  isplitl [Ht2]; · iexact Ht2
  isplitl [Ha2]; · iexact Ha2
  isplitl [Hb2]; · iexact Hb2
  isplitl [HO]; · iexact HO
  iintro HO
  iapply (signal_step A D K c (c + 3) (Fin.ext (k0_dev3_eq c)) (next_ne c).2.2 (B := ((others c).erase (c + 1)).erase (c + 2)) (next_in c).2.2)
  isplitr; · iexact HR
  isplitl [Ht3]; · iexact Ht3
  isplitl [Ha3]; · iexact Ha3
  isplitl [Hb3]; · iexact Hb3
  isplitl [HO]; · iexact HO
  iintro HO
  rw [signals_done]
  iapply (load_step c (m := xM) (Finset.subset_univ _) x (Memref.readAt_unit_zero (Elt F) cc0_stg0_0 hz2 _ x))
  isplitl [Hx]; · iexact Hx
  iintro Hx
  iapply (load_step c (m := rM) (Finset.subset_univ _) r (Memref.readAt_unit_zero (Elt F) cc0_stg1_0 hz2 _ r))
  isplitl [Hr]; · iexact Hr
  iintro Hr
  iapply ret_step
  iapply Hk $$ HO Hx Hr

/-- Part 2: the loads of the routes and of the device's two expert matrices. -/
theorem part2 (c : Dev nD) (i : Vec F S512x1 .i32) (ew : Vec F S2x256x512 .bf16) (v20 : FVec F S512x256 .bf16) (v28 : FVec F S512x8 .f32)
    {Q : (Σ' (_ : FVec F S512x256 .bf16) (_ : FVec F S256x512 .bf16) (_ : FVec F S512x256 .bf16), Vec F S1x256x512 .bf16) → sProp 𝕄} :
    iprop(stg c cc0_stg2_0 i ∗ stg c cc0_stg3_0 ew
        ∗ (stg c cc0_stg2_0 i -∗ stg c cc0_stg3_0 ew
          -∗ Q ⟨k0_pay5 (place c) v20 v28 i, k0_pay6 (matK 0 ew), k0_pay7 (place c) v20 v28 i, matK 1 ew⟩))
      ⊢ WP c (k0_part2 xM h0 rM h1 iM h2 eM h3 wM h4 oM h5 pM h6 aM h7 dM h8 bM h9 cc0_scratch4 cc0_scratch5 cc0_scratch6 cc0_scratch7 (place c) v20 v28) Q := by
  rw [k0_part2_eq_skeleton]
  unfold k0_part2_skel
  iintro ⟨Hi, He, Hk⟩
  iapply (load_step c (m := iM) (Finset.subset_univ _) i (Memref.readAt_unit_zero (Elt F) cc0_stg2_0 hz2 _ i))
  isplitl [Hi]; · iexact Hi
  iintro Hi
  iapply (load_step c (m := eM) (Finset.subset_univ _) (matK 0 ew) (read_mat 0 _ ew))
  isplitl [He]; · iexact He
  iintro He
  iapply (load_step c (m := eM) (Finset.subset_univ _) (matK 1 ew) (read_mat 1 _ ew))
  isplitl [He]; · iexact He
  iintro He
  iapply ret_step
  iapply Hk $$ Hi He

/-- Part 3: the barrier, the own block for places 0 to 2, the sends to devices 0 and 1. -/
theorem part3 (c : Dev nD) (v52 : FVec F S512x256 .bf16) (v54 : FVec F S256x512 .bf16) (v71 : FVec F S512x256 .bf16) (v72 : Vec F S1x256x512 .bf16)
    (hA0 : k0_pay9 v52 v54 v71 v72 = A c 0) (hA1 : k0_pay12 v52 v54 v71 v72 = A c 1) (hA2 : k0_pay15 v52 v54 v71 v72 = A c 2)
    {Q : (Σ' (_ : FVec F S256x512 .bf16) (_ : FVec F S128x512 .bf16), BitVec 1) → sProp 𝕄} :
    iprop(records A D K ∗ levAts L lv ∗ cred (tallyAt (barCell c) () 3) ∗ atPos ER (barCell c) 0 ∅ 0 ∗ ow c (OW c ∅ (others c) (others c))
        ∗ bigSep (others c) (fun q => iprop(Tk1 (F := F) c q ∗ Tk2 (F := F) c q))
        ∗ In1 (F := F) c 0 ∗ In1 (F := F) c 1 ∗ In1 (F := F) c 2 ∗ pAny c 0 ∗ pAny c 1
        ∗ (semVal (barCell c) 0 -∗ ow c (OW c ∅ (((others c).erase 0).erase 1) (others c)) -∗ In1' A c 0 -∗ In1' A c 1 -∗ In1' A c 2 -∗ Sent1 c 0 -∗ Sent1 c 1
          -∗ Go1 (F := F) c 2 -∗ Go1 (F := F) c 3 -∗ Go2 (F := F) c 0 -∗ Go2 (F := F) c 1 -∗ Go2 (F := F) c 2 -∗ Go2 (F := F) c 3
          -∗ Q ⟨k0_pay8 v72, k0_pay15 v52 v54 v71 v72, Scalar.cmpi .ne (place c) 2#32⟩))
      ⊢ WP c (k0_part3 xM h0 rM h1 iM h2 eM h3 wM h4 oM h5 pM h6 aM h7 dM h8 bM h9 cc0_scratch4 cc0_scratch5 cc0_scratch6 cc0_scratch7
          c (place c) (SemArray.scalar (sig.barrier 0 rfl)) v52 v54 v71 v72) Q := by
  rw [k0_part3_eq_skeleton]
  unfold k0_part3_skel
  iintro ⟨#HR, #Hlev, HcB, HatB, HO, Htk, Hi0, Hi1, Hi2, Hp0, Hp1, Hk⟩
  iapply (barrier_step A D K c)
  isplitr; · iexact HR
  isplitr; · iexact Hlev
  isplitl [HcB]; · iexact HcB
  isplitl [HatB]; · iexact HatB
  isplitl [HO]; · iexact HO
  iintro Hbar HzB HO
  ihave Hbar := (Entails.of_eq (others_four c fun d => barPay (F := F) c d)) $$ Hbar
  icases Hbar with ⟨B0, B1, B2, B3⟩
  ihave Htk := (Entails.of_eq (others_four c fun q => iprop(Tk1 (F := F) c q ∗ Tk2 (F := F) c q))) $$ Htk
  icases Htk with ⟨T0, T1, T2, T3⟩
  ihave G0 := (go_intro (F := F) c 0) $$ [T0 B0]
  · isplitl [T0]; · iexact T0
    iexact B0
  icases G0 with ⟨Ga0, Gb0⟩
  ihave G1 := (go_intro (F := F) c 1) $$ [T1 B1]
  · isplitl [T1]; · iexact T1
    iexact B1
  icases G1 with ⟨Ga1, Gb1⟩
  ihave G2 := (go_intro (F := F) c 2) $$ [T2 B2]
  · isplitl [T2]; · iexact T2
    iexact B2
  icases G2 with ⟨Ga2, Gb2⟩
  ihave G3 := (go_intro (F := F) c 3) $$ [T3 B3]
  · isplitl [T3]; · iexact T3
    iexact B3
  icases G3 with ⟨Ga3, Gb3⟩
  dsimp -zeta only
  extract_lets
  iapply (own_step A c 0 (is_place c 0) (k0_pay10 v52 v54 v71 v72) ((shapeCast_lift _ _).trans (congrArg lift hA0)) (cred (tallyAt (dCell 1 c 0) () N)))
  isplitl [Hi0]; · iexact Hi0
  iintro Hi0
  iapply (send_one_step A D K c 0 (cond2 c) k0_dev4_eq (k0_off1_eq c) (k0_off2_eq c) (k0_pay11 v52 v54 v71 v72)
    ((shapeCast_self _ _).trans hA0) (others c) (others c) (left0 c) (own0 c))
  isplitr; · iexact HR
  isplitl [Hp0]; · iexact Hp0
  isplitl [Ga0]; · iexact Ga0
  isplitl [HO]; · iexact HO
  iintro Hp0 HO
  iapply (own_step A c 1 (is_place c 1) (k0_pay13 v52 v54 v71 v72) ((shapeCast_lift _ _).trans (congrArg lift hA1)) (cred (tallyAt (dCell 1 c 1) () N)))
  isplitl [Hi1]; · iexact Hi1
  iintro Hi1
  iapply (send_one_step A D K c 1 (cond4 c) k0_dev5_eq (k0_off3_eq c) (k0_off4_eq c) (k0_pay14 v52 v54 v71 v72)
    ((shapeCast_self _ _).trans hA1) ((others c).erase 0) (others c) (left1 c) (own1 c))
  isplitr; · iexact HR
  isplitl [Hp1]; · iexact Hp1
  isplitl [Ga1]; · iexact Ga1
  isplitl [HO]; · iexact HO
  iintro Hp1 HO
  iapply (own_step A c 2 (is_place c 2) (k0_pay16 v52 v54 v71 v72) ((shapeCast_lift _ _).trans (congrArg lift hA2)) (cred (tallyAt (dCell 1 c 2) () N)))
  isplitl [Hi2]; · iexact Hi2
  iintro Hi2
  iapply ret_step
  iapply Hk $$ HzB HO Hi0 Hi1 Hi2 Hp0 Hp1 Ga2 Ga3 Gb0 Gb1 Gb2 Gb3

/-- Part 4: the sends to devices 2 and 3, the shared expert's weights, the receives of phase 1. -/
theorem part4 (c : Dev nD) (w : Vec F S256x512 .bf16) (v20 v52 : FVec F S512x256 .bf16) (v54 : FVec F S256x512 .bf16) (v71 : FVec F S512x256 .bf16) (v73 : FVec F S256x512 .bf16)
    (v103 : FVec F S128x512 .bf16) (v107 : BitVec 1)
    (hA2 : v103 = A c 2) (hA3 : k0_pay18 v52 v54 v71 v73 = A c 3)
    {Q : (Σ' (_ : FVec F S512x512 .f32), FVec F S128x512 .f32) → sProp 𝕄} :
    iprop(records A D K ∗ levAts L lv ∗ ow c (OW c ∅ (((others c).erase 0).erase 1) (others c)) ∗ stg c cc0_stg4_0 w
        ∗ In1' A c 0 ∗ In1' A c 1 ∗ In1' A c 2 ∗ In1 (F := F) c 3 ∗ pAny c 2 ∗ pAny c 3 ∗ Go1 (F := F) c 2 ∗ Go1 (F := F) c 3
        ∗ atPos ER (dCell 1 c 0) 0 ∅ 0 ∗ atPos ER (dCell 1 c 1) 0 ∅ 0 ∗ atPos ER (dCell 1 c 2) 0 ∅ 0 ∗ atPos ER (dCell 1 c 3) 0 ∅ 0
        ∗ (ow c (OW c ∅ ∅ (others c)) -∗ stg c cc0_stg4_0 w -∗ Sent1 c 2 -∗ Sent1 c 3
          -∗ aPts c 0 (aVal A c) -∗ aPts c 1 (aVal A c) -∗ aPts c 2 (aVal A c) -∗ aPts c 3 (aVal A c)
          -∗ semVal (dCell 1 c 0) 0 -∗ semVal (dCell 1 c 1) 0 -∗ semVal (dCell 1 c 2) 0 -∗ semVal (dCell 1 c 3) 0
          -∗ Q ⟨k0_pay21 v20 w, k0_pay22 (lift (A 0 c))⟩))
      ⊢ WP c (k0_part4 xM h0 rM h1 iM h2 eM h3 wM h4 oM h5 pM h6 aM h7 dM h8 bM h9 cc0_scratch4 cc0_scratch5 cc0_scratch6 cc0_scratch7
          c (place c) v20 v52 v54 v71 v73 v103 v107) Q := by
  rw [k0_part4_eq_skeleton]
  unfold k0_part4_skel
  iintro ⟨#HR, #Hlev, HO, Hw, Hi0, Hi1, Hi2, Hi3, Hp2, Hp3, Ga2, Ga3, Hat0, Hat1, Hat2, Hat3, Hk⟩
  dsimp -zeta only
  extract_lets
  iapply (send_one_step A D K c 2 (cond6 c) k0_dev6_eq (k0_off5_eq c) (k0_off6_eq c) (k0_pay17 v103)
    ((shapeCast_self _ _).trans hA2) (((others c).erase 0).erase 1) (others c) (left2 c) (own2 c))
  isplitr; · iexact HR
  isplitl [Hp2]; · iexact Hp2
  isplitl [Ga2]; · iexact Ga2
  isplitl [HO]; · iexact HO
  iintro Hp2 HO
  iapply (own_step A c 3 (is_place c 3) (k0_pay19 v52 v54 v71 v73) ((shapeCast_lift _ _).trans (congrArg lift hA3)) (cred (tallyAt (dCell 1 c 3) () N)))
  isplitl [Hi3]; · iexact Hi3
  iintro Hi3
  iapply (send_one_step A D K c 3 (cond8 c) k0_dev7_eq (k0_off7_eq c) (k0_off8_eq c) (k0_pay20 v52 v54 v71 v73)
    ((shapeCast_self _ _).trans hA3) ((((others c).erase 0).erase 1).erase 2) (others c) (left3 c) (own3 c))
  isplitr; · iexact HR
  isplitl [Hp3]; · iexact Hp3
  isplitl [Ga3]; · iexact Ga3
  isplitl [HO]; · iexact HO
  iintro Hp3 HO
  ihave HO := (Entails.of_eq (congrArg (fun S => ow (F := F) c (OW c ∅ S (others c))) (others_done c))) $$ HO
  iapply (load_step c (m := wM) (Finset.subset_univ _) w (Memref.readAt_unit_zero (Elt F) cc0_stg4_0 hz2 _ w))
  isplitl [Hw]; · iexact Hw
  iintro Hw
  dsimp -zeta only
  extract_lets
  iapply (recv_one_step A D K c 0 (not_place c 0) (others c))
  isplitr; · iexact HR
  isplitr; · iexact Hlev
  isplitl [Hi0]; · iexact Hi0
  isplitl [Hat0]; · iexact Hat0
  isplitl [HO]; · iexact HO
  iintro Ha0 Hz0 HO
  iapply (recv_one_step A D K c 1 (not_place c 1) (others c))
  isplitr; · iexact HR
  isplitr; · iexact Hlev
  isplitl [Hi1]; · iexact Hi1
  isplitl [Hat1]; · iexact Hat1
  isplitl [HO]; · iexact HO
  iintro Ha1 Hz1 HO
  iapply (recv_one_step A D K c 2 (not_place c 2) (others c))
  isplitr; · iexact HR
  isplitr; · iexact Hlev
  isplitl [Hi2]; · iexact Hi2
  isplitl [Hat2]; · iexact Hat2
  isplitl [HO]; · iexact HO
  iintro Ha2 Hz2 HO
  iapply (recv_one_step A D K c 3 (not_place c 3) (others c))
  isplitr; · iexact HR
  isplitr; · iexact Hlev
  isplitl [Hi3]; · iexact Hi3
  isplitl [Hat3]; · iexact Hat3
  isplitl [HO]; · iexact HO
  iintro Ha3 Hz3 HO
  unfold aPts
  iapply (load_step c (m := aM) (aM_load 0) (lift (A 0 c)) (read_slot_a (fun s => A s c) 0))
  isplitl [Ha0]; · iexact Ha0
  iintro Ha0
  iapply ret_step
  iapply Hk $$ HO Hw Hp2 Hp3 Ha0 Ha1 Ha2 Ha3 Hz0 Hz1 Hz2 Hz3

end Parts
end Cert.KernelIdeal.Reduce
-- ==== Proof.KernelIdeal.PartsOut.lean ====
/-
# The body's second half

Parts 5 and 6 of the body and its last step: the reduced rows, their sends, the rows of the output, and the waits for
what was sent.
-/
module

public import proofs.«01_k».proof.Proof.KernelIdeal.Parts

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Dev nD → Vec F S128x512 .bf16) (D : Dev nD → Vec F S128x512 .bf16) (OUT : Dev nD → Vec F S128x512 .bf16) (K : Dev nD × CK → ℕ)

/-- The rows of the output for block `s` once the own block may be stored. -/
abbrev Out1 (c s : Dev nD) : sProp 𝕄 := if c = s then oPts c s (blocks OUT) else oAny c s

theorem cond13 (c : Dev nD) : k0_cond13 c = 1#1 ↔ c ≠ 0 := by revert c; decide
theorem cond14 (c : Dev nD) : k0_cond14 c = 1#1 ↔ c ≠ 1 := by revert c; decide
theorem cond15 (c : Dev nD) : k0_cond15 c = 1#1 ↔ c ≠ 2 := by revert c; decide
theorem cond16 (c : Dev nD) : k0_cond16 c = 1#1 ↔ c ≠ 3 := by revert c; decide
theorem cond25 (c : Dev nD) : k0_cond25 c = 1#1 ↔ c ≠ 0 := by revert c; decide
theorem cond26 (c : Dev nD) : k0_cond26 c = 1#1 ↔ c ≠ 1 := by revert c; decide
theorem cond27 (c : Dev nD) : k0_cond27 c = 1#1 ↔ c ≠ 2 := by revert c; decide
theorem cond28 (c : Dev nD) : k0_cond28 c = 1#1 ↔ c ≠ 3 := by revert c; decide

variable (h0 : xM.IsWhole) (h1 : rM.IsWhole) (h2 : iM.IsWhole) (h3 : eM.IsWhole) (h4 : wM.IsWhole) (h5 : oM.IsWhole) (h6 : pM.IsWhole)
  (h7 : aM.IsWhole) (h8 : dM.IsWhole) (h9 : bM.IsWhole)

/-- Part 5: the reduced rows, their sends, and the own block of the output when the device is the first. -/
theorem part5 (c : Dev nD) (g : Vec F S128x512 .bf16) (v124 : FVec F S512x512 .f32) (v139 : FVec F S128x512 .f32)
    (hD : k0_pay24 v139 (lift (A 1 c)) (lift (A 2 c)) (lift (A 3 c)) = D c)
    (hO : c = 0 → k0_pay25 v124 v139 (lift (A 1 c)) (lift (A 2 c)) (lift (A 3 c)) = OUT 0)
    {Q : (Σ' (_ : FVec F S128x512 .f32), BitVec 1) → sProp 𝕄} :
    iprop(records A D K ∗ ow c (OW c ∅ ∅ (others c)) ∗ aPts c 1 (aVal A c) ∗ aPts c 2 (aVal A c) ∗ aPts c 3 (aVal A c) ∗ stg c cc0_scratch2 g
        ∗ Go2 (F := F) c 0 ∗ Go2 (F := F) c 1 ∗ Go2 (F := F) c 2 ∗ Go2 (F := F) c 3 ∗ oAny c 0
        ∗ (ow c (OW c ∅ ∅ ∅) -∗ aPts c 1 (aVal A c) -∗ aPts c 2 (aVal A c) -∗ aPts c 3 (aVal A c)
          -∗ Sent2 D c 0 -∗ Sent2 D c 1 -∗ Sent2 D c 2 -∗ Sent2 D c 3 -∗ Out1 OUT c 0
          -∗ Q ⟨k0_pay23 v139 (lift (A 1 c)) (lift (A 2 c)) (lift (A 3 c)), Scalar.cmpi .ne (place c) 0#32⟩))
      ⊢ WP c (k0_part5 xM h0 rM h1 iM h2 eM h3 wM h4 oM h5 pM h6 aM h7 dM h8 bM h9 cc0_scratch4 cc0_scratch5 cc0_scratch6 cc0_scratch7
          c (place c) v124 v139) Q := by
  rw [k0_part5_eq_skeleton]
  unfold k0_part5_skel
  iintro ⟨#HR, HO, Ha1, Ha2, Ha3, Hd, G0, G1, G2, G3, Ho, Hk⟩
  unfold aPts
  iapply (load_step c (m := aM) (aM_load 1) (lift (A 1 c)) (read_slot_a (fun s => A s c) 1))
  isplitl [Ha1]; · iexact Ha1
  iintro Ha1
  iapply (load_step c (m := aM) (aM_load 2) (lift (A 2 c)) (read_slot_a (fun s => A s c) 2))
  isplitl [Ha2]; · iexact Ha2
  iintro Ha2
  iapply (load_step c (m := aM) (aM_load 3) (lift (A 3 c)) (read_slot_a (fun s => A s c) 3))
  isplitl [Ha3]; · iexact Ha3
  iintro Ha3
  iapply (load_step c (m := dM) (Finset.subset_univ _) g (Memref.readAt_unit_zero (Elt F) cc0_scratch2 hz2 _ g))
  isplitl [Hd]; · iexact Hd
  iintro Hd
  dsimp -zeta only
  extract_lets
  iapply (store_step c (m := dM) (Finset.subset_univ _) (D c) ((Memref.write_access_unit_zero_univ (Elt F) cc0_scratch2 hz2 _ g _).trans hD))
  isplitl [Hd]; · iexact Hd
  iintro Hd
  ihave Hd := (d_split c (D c)).1 $$ Hd
  icases Hd with ⟨D0, D1, D2, D3⟩
  iapply (send_two_step A D K c 0 (cond13 c) k0_dev8_eq (k0_off9_eq c) (k0_off10_eq c) ∅ (others c) (left0 c) (own0 c))
  isplitr; · iexact HR
  isplitl [D0]; · iexact D0
  isplitl [G0]; · iexact G0
  isplitl [HO]; · iexact HO
  iintro D0 HO
  iapply (send_two_step A D K c 1 (cond14 c) k0_dev9_eq (k0_off11_eq c) (k0_off12_eq c) ∅ ((others c).erase 0) (left1 c) (own1 c))
  isplitr; · iexact HR
  isplitl [D1]; · iexact D1
  isplitl [G1]; · iexact G1
  isplitl [HO]; · iexact HO
  iintro D1 HO
  iapply (send_two_step A D K c 2 (cond15 c) k0_dev10_eq (k0_off13_eq c) (k0_off14_eq c) ∅ (((others c).erase 0).erase 1) (left2 c) (own2 c))
  isplitr; · iexact HR
  isplitl [D2]; · iexact D2
  isplitl [G2]; · iexact G2
  isplitl [HO]; · iexact HO
  iintro D2 HO
  iapply (send_two_step A D K c 3 (cond16 c) k0_dev11_eq (k0_off15_eq c) (k0_off16_eq c) ∅ ((((others c).erase 0).erase 1).erase 2) (left3 c) (own3 c))
  isplitr; · iexact HR
  isplitl [D3]; · iexact D3
  isplitl [G3]; · iexact G3
  isplitl [HO]; · iexact HO
  iintro D3 HO
  ihave HO := (Entails.of_eq (congrArg (fun S => ow (F := F) c (OW c ∅ ∅ S)) (others_done c))) $$ HO
  iapply (own_out_step OUT c 0 (is_place c 0) (k0_pay25 v124 v139 (lift (A 1 c)) (lift (A 2 c)) (lift (A 3 c))) hO)
  isplitl [Ho]; · iexact Ho
  iintro Ho
  iapply ret_step
  iapply Hk $$ HO Ha1 Ha2 Ha3 D0 D1 D2 D3 Ho

/-- Part 6: the remaining rows of the output and the waits for the sends to devices 0 to 2. -/
theorem part6 (c : Dev nD) (v124 : FVec F S512x512 .f32) (v151 : FVec F S128x512 .f32)
    (hO1 : c = 1 → k0_pay27 v124 v151 = OUT 1) (hO2 : c = 2 → k0_pay29 v124 v151 = OUT 2) (hO3 : c = 3 → k0_pay31 v124 v151 = OUT 3)
    (hR0 : c ≠ 0 → k0_pay26 v124 (lift (D 0)) = OUT 0) (hR1 : c ≠ 1 → k0_pay28 v124 (lift (D 1)) = OUT 1)
    (hR2 : c ≠ 2 → k0_pay30 v124 (lift (D 2)) = OUT 2) (hR3 : c ≠ 3 → k0_pay32 v124 (lift (D 3)) = OUT 3)
    {Q : BitVec 1 → sProp 𝕄} :
    iprop(records A D K ∗ levAts L lv ∗ ow c (OW c ∅ ∅ ∅) ∗ Out1 OUT c 0 ∗ oAny c 1 ∗ oAny c 2 ∗ oAny c 3
        ∗ In2 (F := F) c 0 ∗ In2 (F := F) c 1 ∗ In2 (F := F) c 2 ∗ In2 (F := F) c 3
        ∗ atPos ER (dCell 3 c 0) 0 ∅ 0 ∗ atPos ER (dCell 3 c 1) 0 ∅ 0 ∗ atPos ER (dCell 3 c 2) 0 ∅ 0 ∗ atPos ER (dCell 3 c 3) 0 ∅ 0
        ∗ Sent1 c 0 ∗ Sent1 c 1 ∗ Sent1 c 2 ∗ Sent2 D c 0 ∗ Sent2 D c 1 ∗ Sent2 D c 2
        ∗ atPos ER (dCell 0 c 0) 0 ∅ 0 ∗ atPos ER (dCell 0 c 1) 0 ∅ 0 ∗ atPos ER (dCell 0 c 2) 0 ∅ 0
        ∗ atPos ER (dCell 2 c 0) 0 ∅ 0 ∗ atPos ER (dCell 2 c 1) 0 ∅ 0 ∗ atPos ER (dCell 2 c 2) 0 ∅ 0
        ∗ (ow c (OW c ∅ ∅ ∅) -∗ oPts c 0 (blocks OUT) -∗ oPts c 1 (blocks OUT) -∗ oPts c 2 (blocks OUT) -∗ oPts c 3 (blocks OUT)
          -∗ bAny c 0 -∗ bAny c 1 -∗ bAny c 2 -∗ bAny c 3
          -∗ semVal (dCell 3 c 0) 0 -∗ semVal (dCell 3 c 1) 0 -∗ semVal (dCell 3 c 2) 0 -∗ semVal (dCell 3 c 3) 0
          -∗ pAny c 0 -∗ pAny c 1 -∗ pAny c 2 -∗ dPts c 0 (D c) -∗ dPts c 1 (D c) -∗ dPts c 2 (D c)
          -∗ semVal (dCell 0 c 0) 0 -∗ semVal (dCell 0 c 1) 0 -∗ semVal (dCell 0 c 2) 0
          -∗ semVal (dCell 2 c 0) 0 -∗ semVal (dCell 2 c 1) 0 -∗ semVal (dCell 2 c 2) 0
          -∗ Q (Scalar.cmpi .ne (place c) 3#32)))
      ⊢ WP c (k0_part6 xM h0 rM h1 iM h2 eM h3 wM h4 oM h5 pM h6 aM h7 dM h8 bM h9 cc0_scratch4 cc0_scratch5 cc0_scratch6 cc0_scratch7
          c (place c) v124 v151 (Scalar.cmpi .ne (place c) 0#32)) Q := by
  rw [k0_part6_eq_skeleton]
  unfold k0_part6_skel
  iintro ⟨#HR, #Hlev, HO, O0, O1, O2, O3, I0, I1, I2, I3, Z0, Z1, Z2, Z3, P0, P1, P2, D0, D1, D2, W0, W1, W2, Y0, Y1, Y2, Hk⟩
  dsimp -zeta only
  extract_lets
  iapply (recv_two_step A D K OUT c 0 (not_place c 0) (k0_pay26 v124) hR0)
  isplitr; · iexact HR
  isplitr; · iexact Hlev
  isplitl [O0]; · iexact O0
  isplitl [I0]; · iexact I0
  isplitl [Z0]; · iexact Z0
  isplitl [HO]; · iexact HO
  iintro O0 I0 Z0 HO
  iapply (own_out_step OUT c 1 (is_place c 1) (k0_pay27 v124 v151) hO1)
  isplitl [O1]; · iexact O1
  iintro O1
  iapply (recv_two_step A D K OUT c 1 (not_place c 1) (k0_pay28 v124) hR1)
  isplitr; · iexact HR
  isplitr; · iexact Hlev
  isplitl [O1]; · iexact O1
  isplitl [I1]; · iexact I1
  isplitl [Z1]; · iexact Z1
  isplitl [HO]; · iexact HO
  iintro O1 I1 Z1 HO
  iapply (own_out_step OUT c 2 (is_place c 2) (k0_pay29 v124 v151) hO2)
  isplitl [O2]; · iexact O2
  iintro O2
  iapply (recv_two_step A D K OUT c 2 (not_place c 2) (k0_pay30 v124) hR2)
  isplitr; · iexact HR
  isplitr; · iexact Hlev
  isplitl [O2]; · iexact O2
  isplitl [I2]; · iexact I2
  isplitl [Z2]; · iexact Z2
  isplitl [HO]; · iexact HO
  iintro O2 I2 Z2 HO
  iapply (own_out_step OUT c 3 (is_place c 3) (k0_pay31 v124 v151) hO3)
  isplitl [O3]; · iexact O3
  iintro O3
  iapply (recv_two_step A D K OUT c 3 (not_place c 3) (k0_pay32 v124) hR3)
  isplitr; · iexact HR
  isplitr; · iexact Hlev
  isplitl [O3]; · iexact O3
  isplitl [I3]; · iexact I3
  isplitl [Z3]; · iexact Z3
  isplitl [HO]; · iexact HO
  iintro O3 I3 Z3 HO
  iapply (sent_step A D K c 0 (cond25 c))
  isplitr; · iexact HR
  isplitr; · iexact Hlev
  isplitl [P0]; · iexact P0
  isplitl [D0]; · iexact D0
  isplitl [W0]; · iexact W0
  isplitl [Y0]; · iexact Y0
  isplitl [HO]; · iexact HO
  iintro P0 D0 W0 Y0 HO
  iapply (sent_step A D K c 1 (cond26 c))
  isplitr; · iexact HR
  isplitr; · iexact Hlev
  isplitl [P1]; · iexact P1
  isplitl [D1]; · iexact D1
  isplitl [W1]; · iexact W1
  isplitl [Y1]; · iexact Y1
  isplitl [HO]; · iexact HO
  iintro P1 D1 W1 Y1 HO
  iapply (sent_step A D K c 2 (cond27 c))
  isplitr; · iexact HR
  isplitr; · iexact Hlev
  isplitl [P2]; · iexact P2
  isplitl [D2]; · iexact D2
  isplitl [W2]; · iexact W2
  isplitl [Y2]; · iexact Y2
  isplitl [HO]; · iexact HO
  iintro P2 D2 W2 Y2 HO
  iapply ret_step
  iapply Hk $$ HO O0 O1 O2 O3 I0 I1 I2 I3 Z0 Z1 Z2 Z3 P0 P1 P2 D0 D1 D2 W0 W1 W2 Y0 Y1 Y2

end Cert.KernelIdeal.Reduce
-- ==== Proof.KernelIdeal.Contents.lean ====
/-
# What the kernel computes, device by device

The values of the body's steps as functions of the devices' inputs: the blocks of partial products, the reduced rows, the
rows of the output.
-/
module

public import proofs.«01_k».proof.Proof.KernelIdeal.PartsOut

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device's five input windows hold: tokens, router weights, routes, its two expert matrices, the shared
    expert's weights. -/
structure Ins (F : FTy → Type) [FloatOps F] where
  x : Vec F S512x256 .bf16
  r : Vec F S256x8 .bf16
  i : Vec F S512x1 .i32
  e : Vec F S2x256x512 .bf16
  w : Vec F S256x512 .bf16

section Values
variable (c : Dev nD) (a : Ins F)

/-- The tokens scaled by the gate of the device's first expert, and of its second. -/
def gated0 : FVec F S512x256 .bf16 := k0_pay5 (place c) (k0_pay1 a.x) (k0_pay2 a.x a.r) a.i
def gated1 : FVec F S512x256 .bf16 := k0_pay7 (place c) (k0_pay1 a.x) (k0_pay2 a.x a.r) a.i
/-- Row block `q` of the device's partial products. -/
def part (q : Fin 4) : FVec F S128x512 .bf16 := match q with
  | 0 => k0_pay9 (gated0 c a) (k0_pay6 (matK 0 a.e)) (gated1 c a) (matK 1 a.e)
  | 1 => k0_pay12 (gated0 c a) (k0_pay6 (matK 0 a.e)) (gated1 c a) (matK 1 a.e)
  | 2 => k0_pay15 (gated0 c a) (k0_pay6 (matK 0 a.e)) (gated1 c a) (matK 1 a.e)
  | 3 => k0_pay18 (gated0 c a) (k0_pay6 (matK 0 a.e)) (gated1 c a) (k0_pay8 (matK 1 a.e))
/-- The shared expert's product. -/
def shared : FVec F S512x512 .f32 := k0_pay21 (k0_pay1 a.x) a.w
end Values

variable (I : Dev nD → Ins F)

/-- The block device `s` computes for device `q`'s rows. -/
def blkA (s q : Dev nD) : Vec F S128x512 .bf16 := part s (I s) q
/-- Device `q`'s reduced rows, at the accumulator's precision and as sent. -/
def sumD (q : Dev nD) : FVec F S128x512 .f32 :=
  k0_pay23 (k0_pay22 (lift (blkA I 0 q))) (lift (blkA I 1 q)) (lift (blkA I 2 q)) (lift (blkA I 3 q))
def redD (q : Dev nD) : Vec F S128x512 .bf16 :=
  k0_pay24 (k0_pay22 (lift (blkA I 0 q))) (lift (blkA I 1 q)) (lift (blkA I 2 q)) (lift (blkA I 3 q))
/-- Row block `s` of device `c`'s output: from its own sum when `s` is `c`, from the sum device `s` sent otherwise. -/
def outB (c s : Dev nD) : Vec F S128x512 .bf16 :=
  if c = s then match s with
    | 0 => k0_pay25 (shared (I c)) (k0_pay22 (lift (blkA I 0 c))) (lift (blkA I 1 c)) (lift (blkA I 2 c)) (lift (blkA I 3 c))
    | 1 => k0_pay27 (shared (I c)) (sumD I c)
    | 2 => k0_pay29 (shared (I c)) (sumD I c)
    | 3 => k0_pay31 (shared (I c)) (sumD I c)
  else match s with
    | 0 => k0_pay26 (shared (I c)) (lift (redD I 0))
    | 1 => k0_pay28 (shared (I c)) (lift (redD I 1))
    | 2 => k0_pay30 (shared (I c)) (lift (redD I 2))
    | 3 => k0_pay32 (shared (I c)) (lift (redD I 3))
/-- Device `c`'s output. -/
def outV (c : Dev nD) : Vec F S512x512 .bf16 := blocks (outB I c)

end Cert.KernelIdeal.Reduce
-- ==== Proof.KernelIdeal.Body.lean ====
/-
# The body at a device

From the device's share of the protocol, its buffers and its inputs, the body runs to its end: the output holds the
computed rows, the inputs are unchanged, every buffer is whole again and every semaphore counter is back at zero.
-/
module

public import proofs.«01_k».proof.Proof.KernelIdeal.Contents

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers cut and joined -/

theorem some_a (c : Dev nD) (s : Fin 4) (f : Vec F S4x128x512 .bf16) : aPts (F := F) c s f ⊢ aAny c s := by
  unfold aAny
  iintro H
  iexists f
  iexact H
theorem some_b (c : Dev nD) (s : Fin 4) (f : Vec F S4x128x512 .bf16) : bPts (F := F) c s f ⊢ bAny c s := by
  unfold bAny
  iintro H
  iexists f
  iexact H
theorem some_p (c : Dev nD) (s : Fin 4) (f : Vec F S512x512 .bf16) : pPts (F := F) c s f ⊢ pAny c s := by
  unfold pAny
  iintro H
  iexists f
  iexact H
theorem some_o (c : Dev nD) (s : Fin 4) (f : Vec F S512x512 .bf16) : oPts (F := F) c s f ⊢ oAny c s := by
  unfold oAny
  iintro H
  iexists f
  iexact H
theorem cut_a (c : Dev nD) (f : Vec F S4x128x512 .bf16) : (stg c cc0_scratch1 f : sProp 𝕄) ⊢ bigSep Finset.univ fun s => aAny (F := F) c s := by
  show (((c : Thread nD τ).loc cc0_scratch1) ↦[(Finset.univ : Finset S4x128x512.Idx)]{fullShare} f : sProp 𝕄) ⊢ _
  rw [← slot_cover, pointsTo_biUnion _ _ slot_disjoint]
  exact bigSep_mono fun s _ => some_a c s f
theorem cut_b (c : Dev nD) (f : Vec F S4x128x512 .bf16) : (stg c cc0_scratch3 f : sProp 𝕄) ⊢ bigSep Finset.univ fun s => bAny (F := F) c s := by
  show (((c : Thread nD τ).loc cc0_scratch3) ↦[(Finset.univ : Finset S4x128x512.Idx)]{fullShare} f : sProp 𝕄) ⊢ _
  rw [← slot_cover, pointsTo_biUnion _ _ slot_disjoint]
  exact bigSep_mono fun s _ => some_b c s f
theorem cut_p (c : Dev nD) (f : Vec F S512x512 .bf16) : (stg c cc0_scratch0 f : sProp 𝕄) ⊢ bigSep Finset.univ fun s => pAny (F := F) c s := by
  show (((c : Thread nD τ).loc cc0_scratch0) ↦[(Finset.univ : Finset S512x512.Idx)]{fullShare} f : sProp 𝕄) ⊢ _
  rw [← rows_cover, pointsTo_biUnion _ _ rows_disjoint]
  exact bigSep_mono fun s _ => some_p c s f
theorem cut_o (c : Dev nD) (f : Vec F S512x512 .bf16) : (stg c cc0_stg5_0 f : sProp 𝕄) ⊢ bigSep Finset.univ fun s => oAny (F := F) c s := by
  show (((c : Thread nD τ).loc cc0_stg5_0) ↦[(Finset.univ : Finset S512x512.Idx)]{fullShare} f : sProp 𝕄) ⊢ _
  rw [← rows_cover, pointsTo_biUnion _ _ rows_disjoint]
  exact bigSep_mono fun s _ => some_o c s f

theorem join_a (c : Dev nD) (f : Vec F S4x128x512 .bf16) : bigSep Finset.univ (fun s => aPts (F := F) c s f) ⊢ stg c cc0_scratch1 f := by
  show _ ⊢ (((c : Thread nD τ).loc cc0_scratch1) ↦[(Finset.univ : Finset S4x128x512.Idx)]{fullShare} f : sProp 𝕄)
  rw [← slot_cover, pointsTo_biUnion _ _ slot_disjoint]
  exact Entails.rfl
theorem join_o (c : Dev nD) (f : Vec F S512x512 .bf16) : bigSep Finset.univ (fun s => oPts (F := F) c s f) ⊢ stg c cc0_stg5_0 f := by
  show _ ⊢ (((c : Thread nD τ).loc cc0_stg5_0) ↦[(Finset.univ : Finset S512x512.Idx)]{fullShare} f : sProp 𝕄)
  rw [← rows_cover, pointsTo_biUnion _ _ rows_disjoint]
  exact Entails.rfl
/-- Pieces of a cover, each at some contents, are the whole at some contents. -/
theorem join_any {ℓ : Loc nD τ sig} (K : Fin 4 → Finset (Idx ℓ)) (f₀ : Buf (Elt F) ℓ)
    (hd : ∀ q ∈ (Finset.univ : Finset (Fin 4)), ∀ q' ∈ (Finset.univ : Finset (Fin 4)), q ≠ q' → Disjoint (K q) (K q')) (hc : Finset.univ.biUnion K = Finset.univ) :
    bigSep Finset.univ (fun s => iprop(∃ f : Buf (Elt F) ℓ, ℓ ↦[K s]{fullShare} f)) ⊢ (iprop(∃ f : Buf (Elt F) ℓ, ℓ ↦[Finset.univ]{fullShare} f) : sProp 𝕄) := by
  iintro H
  ihave H := (BI.bigSep_exists_pi Finset.univ fun (s : Fin 4) (f : Buf (Elt F) ℓ) => (ℓ ↦[K s]{fullShare} f : sProp 𝕄)) $$ H
  icases H with ⟨%fs, H⟩
  ihave H := (pointsTo_biUnion_join Finset.univ K fs f₀ hd) $$ H
  icases H with ⟨%g, -, H⟩
  rw [hc]
  iexists g
  iexact H
theorem join_b (c : Dev nD) (f₀ : Vec F S4x128x512 .bf16) : bigSep Finset.univ (fun s => bAny (F := F) c s) ⊢ iprop(∃ f, stg c cc0_scratch3 f) :=
  join_any (ℓ := (c : Thread nD τ).loc cc0_scratch3) slot f₀ slot_disjoint slot_cover
theorem join_p (c : Dev nD) (f₀ : Vec F S512x512 .bf16) : bigSep Finset.univ (fun s => pAny (F := F) c s) ⊢ iprop(∃ f, stg c cc0_scratch0 f) :=
  join_any (ℓ := (c : Thread nD τ).loc cc0_scratch0) rows f₀ rows_disjoint rows_cover

/-- A program's first part, then the rest. -/
theorem bind_step (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

/-! ## The device's share of the protocol -/

/-- The positions at round 0 of all the device's cells, and the tokens of the duties it pays. -/
def linear (c : Dev nD) : sProp 𝕄 :=
  iprop(atPos ER (barCell c) 0 ∅ 0
    ∗ (bigSep Finset.univ fun q => atPos ER (dCell 0 c q) 0 ∅ 0) ∗ (bigSep Finset.univ fun q => atPos ER (dCell 1 c q) 0 ∅ 0)
    ∗ (bigSep Finset.univ fun q => atPos ER (dCell 2 c q) 0 ∅ 0) ∗ (bigSep Finset.univ fun q => atPos ER (dCell 3 c q) 0 ∅ 0)
    ∗ bigSep (others c) (fun p => dutyTok ER (barCell p) 0 c) ∗ bigSep (others c) fun q => iprop(Tk1 (F := F) c q ∗ Tk2 (F := F) c q))
/-- The credits of what the others owe the device. -/
def credits (c : Dev nD) : sProp 𝕄 :=
  iprop(cred (tallyAt (barCell c) () 3) ∗ bigSep (others c) (fun q => cred (tallyAt (dCell 1 c q) () N)) ∗ bigSep (others c) fun q => cred (tallyAt (dCell 3 c q) () N))
/-- The device's scratch buffers, whole, at any contents. -/
def scratch (c : Dev nD) : sProp 𝕄 :=
  iprop((∃ f, stg (F := F) c cc0_scratch0 f) ∗ (∃ f, stg (F := F) c cc0_scratch1 f) ∗ (∃ f, stg (F := F) c cc0_scratch2 f) ∗ (∃ f, stg (F := F) c cc0_scratch3 f))
/-- Every counter of the device at zero. -/
def zeros (c : Dev nD) : sProp 𝕄 :=
  iprop(semVal (barCell c) 0 ∗ (bigSep Finset.univ fun q => semVal (dCell 0 c q) 0) ∗ (bigSep Finset.univ fun q => semVal (dCell 1 c q) 0)
    ∗ (bigSep Finset.univ fun q => semVal (dCell 2 c q) 0) ∗ bigSep Finset.univ fun q => semVal (dCell 3 c q) 0)

/-- Before its own block is stored, the device's slots of phase 1: its own, and the credits of the others'. -/
theorem in1_intro (c : Dev nD) : iprop(aAny (F := F) c c ∗ bigSep (others c) fun q => cred (tallyAt (dCell 1 c q) () N)) ⊢ bigSep Finset.univ fun q => In1 (F := F) c q := by
  rw [bigSep_univ_at (fun q => In1 (F := F) c q) c, show In1 (F := F) c c = aAny c c from if_pos rfl,
    bigSep_congr (s := Finset.univ.erase c) (fun q hq => (show In1 (F := F) c q = cred (tallyAt (dCell 1 c q) () N) from if_neg fun h => (Finset.mem_erase.mp hq).1 h.symm))]
theorem in2_intro (c : Dev nD) : iprop(bAny (F := F) c c ∗ bigSep (others c) fun q => cred (tallyAt (dCell 3 c q) () N)) ⊢ bigSep Finset.univ fun q => In2 (F := F) c q := by
  rw [bigSep_univ_at (fun q => In2 (F := F) c q) c, show In2 (F := F) c c = bAny c c from if_pos rfl,
    bigSep_congr (s := Finset.univ.erase c) (fun q hq => (show In2 (F := F) c q = cred (tallyAt (dCell 3 c q) () N) from if_neg fun h => (Finset.mem_erase.mp hq).1 h.symm))]
/-- The signals' tokens and the others' slots, next device first. -/
theorem tb_intro (c : Dev nD) :
    iprop(bigSep (others c) (fun p => dutyTok ER (barCell p) 0 c) ∗ bigSep (others c) (fun p => aAny (F := F) c p) ∗ bigSep (others c) fun p => bAny (F := F) c p)
      ⊢ iprop(Tb (F := F) c (c + 1) ∗ Tb (F := F) c (c + 2) ∗ Tb (F := F) c (c + 3)) := by
  rw [← bigSep_sep', ← bigSep_sep', others_next c fun p => iprop(dutyTok ER (barCell p) 0 c ∗ aAny (F := F) c p ∗ bAny (F := F) c p)]

variable (I : Dev nD → Ins F) (K : Dev nD × CK → ℕ)

/-- What the body starts from, beside the inputs' windows. -/
def bodyIn (c : Dev nD) : sProp 𝕄 :=
  iprop(records (blkA I) (redD I) K ∗ levAts L lv ∗ linear (F := F) c ∗ credits (F := F) c ∗ scratch (F := F) c ∗ ow (F := F) c (O₀ c))
/-- The six windows' staging buffers at device `c`: the inputs, and the output at `f`. -/
def windows (c : Dev nD) (f : Vec F S512x512 .bf16) : sProp 𝕄 :=
  iprop(stg c cc0_stg0_0 (I c).x ∗ stg c cc0_stg1_0 (I c).r ∗ stg c cc0_stg2_0 (I c).i ∗ stg c cc0_stg3_0 (I c).e ∗ stg c cc0_stg4_0 (I c).w ∗ stg c cc0_stg5_0 f)

variable (h0 : xM.IsWhole) (h1 : rM.IsWhole) (h2 : iM.IsWhole) (h3 : eM.IsWhole) (h4 : wM.IsWhole) (h5 : oM.IsWhole) (h6 : pM.IsWhole)
  (h7 : aM.IsWhole) (h8 : dM.IsWhole) (h9 : bM.IsWhole)

/-- The body at device `c`. -/
theorem sound_body (c : Dev nD) (f : Vec F S512x512 .bf16) {Q : PUnit → sProp 𝕄} :
    iprop(bodyIn I K c ∗ windows I c f
        ∗ (scratch (F := F) c -∗ zeros (F := F) c -∗ ow (F := F) c 0 -∗ windows I c (outV I c) -∗ Q ⟨⟩))
      ⊢ WP c (cc0_body xM h0 rM h1 iM h2 eM h3 wM h4 oM h5 pM h6 aM h7 dM h8 bM h9 cc0_scratch4 cc0_scratch5 cc0_scratch6 cc0_scratch7) Q := by
  rw [cc0_body_eq_skeleton]
  unfold cc0_body_skel bodyIn windows linear credits scratch
  iintro ⟨⟨#HR, #Hlev, ⟨HatB, At0, At1, At2, At3, HtB, Htk⟩, ⟨HcB, Hc1, Hc3⟩, ⟨⟨%fp, Hp⟩, ⟨%fa, Ha⟩, ⟨%fd, Hd⟩, ⟨%fb, Hb⟩⟩, HO⟩, ⟨Hx, Hr, Hi, He, Hw, Ho⟩, Hk⟩
  ihave Ha := (cut_a c fa) $$ Ha
  ihave Ha := (Entails.of_eq (bigSep_univ_at (fun s => aAny (F := F) c s) c)) $$ Ha
  icases Ha with ⟨Hac, Ha⟩
  ihave Hb := (cut_b c fb) $$ Hb
  ihave Hb := (Entails.of_eq (bigSep_univ_at (fun s => bAny (F := F) c s) c)) $$ Hb
  icases Hb with ⟨Hbc, Hb⟩
  ihave Hp := (cut_p c fp) $$ Hp
  ihave Hp := (Entails.of_eq (four fun s => pAny (F := F) c s)) $$ Hp
  icases Hp with ⟨P0, P1, P2, P3⟩
  ihave Ho := (cut_o c f) $$ Ho
  ihave Ho := (Entails.of_eq (four fun s => oAny (F := F) c s)) $$ Ho
  icases Ho with ⟨O0, O1, O2, O3⟩
  ihave Hi1 := (in1_intro (F := F) c) $$ [Hac Hc1]
  · isplitl [Hac]; · iexact Hac
    iexact Hc1
  ihave Hi1 := (Entails.of_eq (four fun s => In1 (F := F) c s)) $$ Hi1
  icases Hi1 with ⟨I0, I1, I2, I3⟩
  ihave Hi2 := (in2_intro (F := F) c) $$ [Hbc Hc3]
  · isplitl [Hbc]; · iexact Hbc
    iexact Hc3
  ihave Hi2 := (Entails.of_eq (four fun s => In2 (F := F) c s)) $$ Hi2
  icases Hi2 with ⟨J0, J1, J2, J3⟩
  ihave Htb := (tb_intro (F := F) c) $$ [HtB Ha Hb]
  · isplitl [HtB]; · iexact HtB
    isplitl [Ha]; · iexact Ha
    iexact Hb
  icases Htb with ⟨T1, T2, T3⟩
  ihave At0 := (Entails.of_eq (four fun q => (atPos ER (dCell 0 c q) 0 ∅ 0 : sProp 𝕄))) $$ At0
  icases At0 with ⟨A00, A01, A02, A03⟩
  ihave At1 := (Entails.of_eq (four fun q => (atPos ER (dCell 1 c q) 0 ∅ 0 : sProp 𝕄))) $$ At1
  icases At1 with ⟨A10, A11, A12, A13⟩
  ihave At2 := (Entails.of_eq (four fun q => (atPos ER (dCell 2 c q) 0 ∅ 0 : sProp 𝕄))) $$ At2
  icases At2 with ⟨A20, A21, A22, A23⟩
  ihave At3 := (Entails.of_eq (four fun q => (atPos ER (dCell 3 c q) 0 ∅ 0 : sProp 𝕄))) $$ At3
  icases At3 with ⟨A30, A31, A32, A33⟩
  iapply bind_step
  iapply (part1 (blkA I) (redD I) K h0 h1 h2 h3 h4 h5 h6 h7 h8 h9 c (I c).x (I c).r)
  isplitr; · iexact HR
  isplitl [T1]; · iexact T1
  isplitl [T2]; · iexact T2
  isplitl [T3]; · iexact T3
  isplitl [HO]; · iexact HO
  isplitl [Hx]; · iexact Hx
  isplitl [Hr]; · iexact Hr
  iintro HO Hx Hr
  dsimp only
  iapply bind_step
  iapply (part2 h0 h1 h2 h3 h4 h5 h6 h7 h8 h9 c (I c).i (I c).e (k0_pay1 (I c).x) (k0_pay2 (I c).x (I c).r))
  isplitl [Hi]; · iexact Hi
  isplitl [He]; · iexact He
  iintro Hi He
  dsimp only
  iapply bind_step
  iapply (part3 (blkA I) (redD I) K h0 h1 h2 h3 h4 h5 h6 h7 h8 h9 c (gated0 c (I c)) (k0_pay6 (matK 0 (I c).e)) (gated1 c (I c)) (matK 1 (I c).e) rfl rfl rfl)
  isplitr; · iexact HR
  isplitr; · iexact Hlev
  isplitl [HcB]; · iexact HcB
  isplitl [HatB]; · iexact HatB
  isplitl [HO]; · iexact HO
  isplitl [Htk]; · iexact Htk
  isplitl [I0]; · iexact I0
  isplitl [I1]; · iexact I1
  isplitl [I2]; · iexact I2
  isplitl [P0]; · iexact P0
  isplitl [P1]; · iexact P1
  iintro HzB HO I0 I1 I2 P0 P1 G2 G3 E0 E1 E2 E3
  dsimp only
  iapply bind_step
  iapply (part4 (blkA I) (redD I) K h0 h1 h2 h3 h4 h5 h6 h7 h8 h9 c (I c).w (k0_pay1 (I c).x) (gated0 c (I c)) (k0_pay6 (matK 0 (I c).e)) (gated1 c (I c))
    (k0_pay8 (matK 1 (I c).e)) (blkA I c 2) _ rfl rfl)
  isplitr; · iexact HR
  isplitr; · iexact Hlev
  isplitl [HO]; · iexact HO
  isplitl [Hw]; · iexact Hw
  isplitl [I0]; · iexact I0
  isplitl [I1]; · iexact I1
  isplitl [I2]; · iexact I2
  isplitl [I3]; · iexact I3
  isplitl [P2]; · iexact P2
  isplitl [P3]; · iexact P3
  isplitl [G2]; · iexact G2
  isplitl [G3]; · iexact G3
  isplitl [A10]; · iexact A10
  isplitl [A11]; · iexact A11
  isplitl [A12]; · iexact A12
  isplitl [A13]; · iexact A13
  iintro HO Hw P2 P3 I0 I1 I2 I3 Z10 Z11 Z12 Z13
  dsimp only
  iapply bind_step
  iapply (part5 (blkA I) (redD I) (outB I c) K h0 h1 h2 h3 h4 h5 h6 h7 h8 h9 c fd (shared (I c)) (k0_pay22 (lift (blkA I 0 c))) rfl
    (fun h => by subst h; exact (if_pos rfl).symm))
  isplitr; · iexact HR
  isplitl [HO]; · iexact HO
  isplitl [I1]; · iexact I1
  isplitl [I2]; · iexact I2
  isplitl [I3]; · iexact I3
  isplitl [Hd]; · iexact Hd
  isplitl [E0]; · iexact E0
  isplitl [E1]; · iexact E1
  isplitl [E2]; · iexact E2
  isplitl [E3]; · iexact E3
  isplitl [O0]; · iexact O0
  iintro HO I1 I2 I3 D0 D1 D2 D3 O0
  dsimp only
  iapply bind_step
  iapply (part6 (blkA I) (redD I) (outB I c) K h0 h1 h2 h3 h4 h5 h6 h7 h8 h9 c (shared (I c)) (sumD I c)
    (fun h => by subst h; exact (if_pos rfl).symm) (fun h => by subst h; exact (if_pos rfl).symm) (fun h => by subst h; exact (if_pos rfl).symm)
    (fun h => (if_neg h).symm) (fun h => (if_neg h).symm) (fun h => (if_neg h).symm) (fun h => (if_neg h).symm))
  isplitr; · iexact HR
  isplitr; · iexact Hlev
  isplitl [HO]; · iexact HO
  isplitl [O0]; · iexact O0
  isplitl [O1]; · iexact O1
  isplitl [O2]; · iexact O2
  isplitl [O3]; · iexact O3
  isplitl [J0]; · iexact J0
  isplitl [J1]; · iexact J1
  isplitl [J2]; · iexact J2
  isplitl [J3]; · iexact J3
  isplitl [A30]; · iexact A30
  isplitl [A31]; · iexact A31
  isplitl [A32]; · iexact A32
  isplitl [A33]; · iexact A33
  isplitl [P0]; · iexact P0
  isplitl [P1]; · iexact P1
  isplitl [P2]; · iexact P2
  isplitl [D0]; · iexact D0
  isplitl [D1]; · iexact D1
  isplitl [D2]; · iexact D2
  isplitl [A00]; · iexact A00
  isplitl [A01]; · iexact A01
  isplitl [A02]; · iexact A02
  isplitl [A20]; · iexact A20
  isplitl [A21]; · iexact A21
  isplitl [A22]; · iexact A22
  iintro HO O0 O1 O2 O3 J0 J1 J2 J3 Z30 Z31 Z32 Z33 P0 P1 P2 D0 D1 D2 Z00 Z01 Z02 Z20 Z21 Z22
  extract_lets
  iapply (sent_step (blkA I) (redD I) K c 3 (cond28 c))
  isplitr; · iexact HR
  isplitr; · iexact Hlev
  isplitl [P3]; · iexact P3
  isplitl [D3]; · iexact D3
  isplitl [A03]; · iexact A03
  isplitl [A23]; · iexact A23
  isplitl [HO]; · iexact HO
  iintro P3 D3 Z03 Z23 HO
  iapply ret_step
  ihave HO := (Entails.of_eq (congrArg (fun O => ow (F := F) c O) (OW_nil c))) $$ HO
  iapply Hk $$ [P0 P1 P2 P3 I0 I1 I2 I3 D0 D1 D2 D3 J0 J1 J2 J3] [HzB Z00 Z01 Z02 Z03 Z10 Z11 Z12 Z13 Z20 Z21 Z22 Z23 Z30 Z31 Z32 Z33] HO [Hx Hr Hi He Hw O0 O1 O2 O3]
  · isplitl [P0 P1 P2 P3]
    · iapply (join_p c fp)
      iapply (Entails.of_eq (four fun s => pAny (F := F) c s).symm)
      isplitl [P0]; · iexact P0
      isplitl [P1]; · iexact P1
      isplitl [P2]; · iexact P2
      iexact P3
    isplitl [I0 I1 I2 I3]
    · iexists (aVal (blkA I) c)
      iapply (join_a c)
      iapply (Entails.of_eq (four fun s => aPts (F := F) c s (aVal (blkA I) c)).symm)
      isplitl [I0]; · iexact I0
      isplitl [I1]; · iexact I1
      isplitl [I2]; · iexact I2
      iexact I3
    isplitl [D0 D1 D2 D3]
    · iexists (redD I c)
      iapply (d_split c (redD I c)).2
      isplitl [D0]; · iexact D0
      isplitl [D1]; · iexact D1
      isplitl [D2]; · iexact D2
      iexact D3
    iapply (join_b c fb)
    iapply (Entails.of_eq (four fun s => bAny (F := F) c s).symm)
    isplitl [J0]; · iexact J0
    isplitl [J1]; · iexact J1
    isplitl [J2]; · iexact J2
    iexact J3
  · unfold zeros
    isplitl [HzB]; · iexact HzB
    isplitl [Z00 Z01 Z02 Z03]
    · iapply (Entails.of_eq (four fun q => (semVal (dCell 0 c q) 0 : sProp 𝕄)).symm)
      isplitl [Z00]; · iexact Z00
      isplitl [Z01]; · iexact Z01
      isplitl [Z02]; · iexact Z02
      iexact Z03
    isplitl [Z10 Z11 Z12 Z13]
    · iapply (Entails.of_eq (four fun q => (semVal (dCell 1 c q) 0 : sProp 𝕄)).symm)
      isplitl [Z10]; · iexact Z10
      isplitl [Z11]; · iexact Z11
      isplitl [Z12]; · iexact Z12
      iexact Z13
    isplitl [Z20 Z21 Z22 Z23]
    · iapply (Entails.of_eq (four fun q => (semVal (dCell 2 c q) 0 : sProp 𝕄)).symm)
      isplitl [Z20]; · iexact Z20
      isplitl [Z21]; · iexact Z21
      isplitl [Z22]; · iexact Z22
      iexact Z23
    iapply (Entails.of_eq (four fun q => (semVal (dCell 3 c q) 0 : sProp 𝕄)).symm)
    isplitl [Z30]; · iexact Z30
    isplitl [Z31]; · iexact Z31
    isplitl [Z32]; · iexact Z32
    iexact Z33
  · isplitl [Hx]; · iexact Hx
    isplitl [Hr]; · iexact Hr
    isplitl [Hi]; · iexact Hi
    isplitl [He]; · iexact He
    isplitl [Hw]; · iexact Hw
    iapply (join_o c (outV I c))
    iapply (Entails.of_eq (four fun s => oPts (F := F) c s (outV I c)).symm)
    isplitl [O0]; · iexact O0
    isplitl [O1]; · iexact O1
    isplitl [O2]; · iexact O2
    iexact O3

end Cert.KernelIdeal.Reduce
-- ==== Proof.KernelIdeal.Deal.lean ====
/-
# The launch's dealing

What the protocol starts from: every device's cells open at round 0 under invariants at known names, each device
holding its own positions and the tokens of the duties it pays, and the credits of what the others owe it.
-/
module

public import proofs.«01_k».proof.Proof.KernelIdeal.Body
public import Idealize.ShloMosaic.Lib.Pipeline.Launch
public import Idealize.ShloMosaic.Lib.Pipeline.Kit

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem kcell_injective : Function.Injective (kcell : Dev nD × CK → GSem nD τ sig) := by
  rintro ⟨c, k⟩ ⟨c', k'⟩ h
  rcases k with _ | ⟨k, q⟩ <;> rcases k' with _ | ⟨k', q'⟩
  · have h1 : c = c' := congrArg (fun g : GSem nD τ sig => g.1.1) h
    rw [h1]
  · exact absurd (congrArg Prod.snd h).symm (dma_ne_bar k' q')
  · exact absurd (congrArg Prod.snd h) (dma_ne_bar k q)
  · have h1 : c = c' := congrArg (fun g : GSem nD τ sig => g.1.1) h
    obtain ⟨h2, h3⟩ := dma_eq (congrArg Prod.snd h)
    subst h1
    exact congrArg (fun x => (c, some x)) (Prod.ext h2 h3)

/-- All the protocol's cells. -/
def ringCells : Finset (GSem nD τ sig) := Finset.univ.map ⟨kcell, kcell_injective⟩

/-- The five duties device `c` pays towards device `p`: its signal, then the two ends of each of its two transfers. -/
def tokOf (x : (Dev nD × Dev nD) × Fin 5) : GSem nD τ sig × ℕ × Dev nD :=
  match x.2 with
  | 0 => (barCell x.1.2, 0, x.1.1)
  | 1 => (dCell 0 x.1.1 x.1.2, 0, x.1.2)
  | 2 => (dCell 1 x.1.2 x.1.1, 0, x.1.1)
  | 3 => (dCell 2 x.1.1 x.1.2, 0, x.1.2)
  | 4 => (dCell 3 x.1.2 x.1.1, 0, x.1.1)

/-- What tells tokens apart: the device, the array of semaphores if any, and the duty. -/
theorem tokOf_key (x : (Dev nD × Dev nD) × Fin 5) :
    (tokOf x).1.1.1 = (if x.2 = 1 ∨ x.2 = 3 then x.1.1 else x.1.2) ∧ (tokOf x).2.2 = (if x.2 = 1 ∨ x.2 = 3 then x.1.2 else x.1.1) := by
  obtain ⟨⟨c, p⟩, j⟩ := x
  fin_cases j <;> exact ⟨rfl, rfl⟩
theorem tokOf_kind (x y : (Dev nD × Dev nD) × Fin 5) (h : (tokOf x).1.2 = (tokOf y).1.2) : x.2 = y.2 := by
  obtain ⟨⟨c, p⟩, j⟩ := x
  obtain ⟨⟨c', p'⟩, j'⟩ := y
  have hn : ∀ k k' q q' : Fin 4, k ≠ k' → (SemLoc.dma (dsem k q) : SemLoc sig) ≠ .dma (dsem k' q') := fun k k' q q' hk h => hk (dma_eq h).1
  fin_cases j <;> fin_cases j' <;>
    first
    | rfl
    | exact absurd h (dma_ne_bar _ _)
    | exact absurd h.symm (dma_ne_bar _ _)
    | exact absurd h (hn _ _ _ _ (by decide))
theorem tokOf_injective : Function.Injective tokOf := by
  intro x y h
  have hj : x.2 = y.2 := tokOf_kind x y (congrArg (fun z => z.1.2) h)
  have h1 := (tokOf_key x).1.symm.trans ((congrArg (fun z => z.1.1.1) h).trans (tokOf_key y).1)
  have h2 := (tokOf_key x).2.symm.trans ((congrArg (fun z => z.2.2) h).trans (tokOf_key y).2)
  rw [hj] at h1 h2
  refine Prod.ext (Prod.ext ?_ ?_) hj
  · by_cases hc : y.2 = 1 ∨ y.2 = 3
    · rwa [if_pos hc, if_pos hc] at h1
    · rwa [if_neg hc, if_neg hc] at h2
  · by_cases hc : y.2 = 1 ∨ y.2 = 3
    · rwa [if_pos hc, if_pos hc] at h2
    · rwa [if_neg hc, if_neg hc] at h1
def ringToks : Finset (GSem nD τ sig × ℕ × Dev nD) := Finset.univ.map ⟨tokOf, tokOf_injective⟩

/-- The launch element: the staging pipeline's part and the protocol's. -/
def u₀ : UU :=
  (initOf (Pipeline.cells cfgs cellOf_inj) (Pipeline.launchToks cfgs cellOf_inj), initOf ringCells ringToks)

/-! ## Sums over a device's cells -/

/-- A device's cells: the barrier's, and four of each array. -/
theorem bigSep_CK (f : CK → sProp 𝕄) :
    bigSep Finset.univ f = iprop(f none ∗ (bigSep Finset.univ fun q => f (some (0, q))) ∗ (bigSep Finset.univ fun q => f (some (1, q)))
      ∗ (bigSep Finset.univ fun q => f (some (2, q))) ∗ (bigSep Finset.univ fun q => f (some (3, q)))) := by
  have he : (Finset.univ : Finset CK).erase none = Finset.univ.map ⟨some, Option.some_injective (Fin 4 × Fin 4)⟩ := by decide
  rw [bigSep_univ_at f none, he, bigSep_map, bigSep_univ_prod, four]
  rfl
theorem five (f : Fin 5 → sProp 𝕄) : bigSep Finset.univ f = iprop(f 0 ∗ f 1 ∗ f 2 ∗ f 3 ∗ f 4) := by
  rw [show (Finset.univ : Finset (Fin 5)) = {0, 1, 2, 3, 4} by decide, bigSep_insert (by decide), bigSep_insert (by decide), bigSep_insert (by decide), bigSep_insert (by decide), bigSep_singleton]
  rfl

/-- All of device `c`'s tokens. -/
def toks (c : Dev nD) : sProp 𝕄 :=
  bigSep Finset.univ fun p : Dev nD => bigSep Finset.univ fun j : Fin 5 =>
    dutyTok ER (tokOf ((c, p), j)).1 (tokOf ((c, p), j)).2.1 (tokOf ((c, p), j)).2.2

theorem toks_pair (c p : Dev nD) :
    (bigSep Finset.univ fun j : Fin 5 => (dutyTok ER (tokOf ((c, p), j)).1 (tokOf ((c, p), j)).2.1 (tokOf ((c, p), j)).2.2 : sProp 𝕄))
      ⊢ iprop(dutyTok ER (barCell p) 0 c ∗ Tk1 (F := F) c p ∗ Tk2 (F := F) c p) := by
  rw [five]
  show iprop(dutyTok ER (barCell p) 0 c ∗ dutyTok ER (dCell 0 c p) 0 p ∗ dutyTok ER (dCell 1 p c) 0 c ∗ dutyTok ER (dCell 2 c p) 0 p ∗ dutyTok ER (dCell 3 p c) 0 c) ⊢ _
  iintro ⟨H0, H1, H2, H3, H4⟩
  isplitl [H0]; · iexact H0
  isplitl [H1 H2]
  · isplitl [H1]; · iexact H1
    iexact H2
  isplitl [H3]; · iexact H3
  iexact H4

theorem toks_pay (c : Dev nD) :
    toks (F := F) c ⊢ iprop(bigSep (others c) (fun p => dutyTok ER (barCell p) 0 c) ∗ bigSep (others c) fun q => iprop(Tk1 (F := F) c q ∗ Tk2 (F := F) c q)) := by
  rw [← bigSep_sep']
  unfold toks
  exact (bigSep_subset (Finset.erase_subset c Finset.univ)).trans (bigSep_mono fun p _ => toks_pair c p)

theorem linear_intro (c : Dev nD) :
    iprop((bigSep Finset.univ fun k : CK => atPos ER (kcell (c, k)) 0 ∅ 0) ∗ toks (F := F) c) ⊢ linear (F := F) c := by
  rw [bigSep_CK]
  show iprop((atPos ER (barCell c) 0 ∅ 0
    ∗ (bigSep Finset.univ fun q => atPos ER (dCell 0 c q) 0 ∅ 0) ∗ (bigSep Finset.univ fun q => atPos ER (dCell 1 c q) 0 ∅ 0)
    ∗ (bigSep Finset.univ fun q => atPos ER (dCell 2 c q) 0 ∅ 0) ∗ (bigSep Finset.univ fun q => atPos ER (dCell 3 c q) 0 ∅ 0)) ∗ toks (F := F) c) ⊢ _
  unfold linear
  iintro ⟨⟨H0, H1, H2, H3, H4⟩, Ht⟩
  isplitl [H0]; · iexact H0
  isplitl [H1]; · iexact H1
  isplitl [H2]; · iexact H2
  isplitl [H3]; · iexact H3
  isplitl [H4]; · iexact H4
  iapply (toks_pay (F := F) c)
  iexact Ht

/-! ## The counters -/

/-- The body's own semaphores: the four arrays. -/
def osem (x : Fin 4 × Fin 4) : SemLoc sig := .dma (dsem x.1 x.2)

theorem unscoped_eq (c : Dev nD) : (unscopedSems0 c : sProp 𝕄) = semVal (barCell c) 0 := by
  unfold unscopedSems0
  rw [bigSep_eq_bigSepL_of_eq [SemLoc.reg barS] (by decide) (by decide)]
  rfl

theorem own_eq (c : Dev nD) :
    (Pipeline.ownSems0 (Ix := Unit) (Name := ℕ) (U := UU) (Lvl := ℕ) (Val := Elt F) (τ := τ) osem c : sProp 𝕄)
      = iprop((bigSep Finset.univ fun q => semVal (dCell 0 c q) 0) ∗ (bigSep Finset.univ fun q => semVal (dCell 1 c q) 0)
        ∗ (bigSep Finset.univ fun q => semVal (dCell 2 c q) 0) ∗ (bigSep Finset.univ fun q => semVal (dCell 3 c q) 0)) := by
  unfold Pipeline.ownSems0
  rw [bigSep_univ_prod, four]
  rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscoped_eq, own_eq, bigSep_CK]
  iintro ⟨H, HB⟩
  isplitl [HB]; · iexact HB
  iexact H

theorem zeros_exit (c : Dev nD) :
    zeros (F := F) c ⊢ iprop(unscopedSems0 c ∗ Pipeline.ownSems0 (Ix := Unit) (Name := ℕ) (U := UU) (Lvl := ℕ) (Val := Elt F) (τ := τ) osem c) := by
  rw [unscoped_eq, own_eq]
  unfold zeros
  exact Entails.of_eq rfl

/-! ## The global step -/

variable (A : Dev nD → Dev nD → Vec F S128x512 .bf16) (D : Dev nD → Vec F S128x512 .bf16)

/-- What the launch element deals device `c`. -/
def G (c : Dev nD) : sProp 𝕄 :=
  iprop((bigSep Finset.univ fun k : CK => roundState ER (Rd A D) (kcell (c, k)) 0)
    ∗ (bigSep Finset.univ fun k : CK => atPos ER (kcell (c, k)) 0 ∅ 0) ∗ (bigSep Finset.univ fun k : CK => reached ER (kcell (c, k)) 0) ∗ toks (F := F) c)

/-- What the global step makes of it. -/
def G' (c : Dev nD) : sProp 𝕄 := iprop(∃ K, records A D K ∗ linear (F := F) c)

theorem fund_ring : BI.own (ER (initOf ringCells ringToks)) ⊢ (|==> bigSep Finset.univ (G A D) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod, bigSep_univ_prod]; rfl
  iintro HX
  imod (Rounds.fund ER (Rd A D) ringCells ringToks) $$ HX with ⟨Hst, Hr, Hat, Htok⟩
  imodintro
  ihave Hst := (Entails.of_eq (hX fun g => roundState ER (Rd A D) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ G A D c)
      ⊢ |={Set.univ}=> iprop((bigSep Finset.univ fun k : CK => iprop(∃ κ : ℕ, cellInv ER (Rd A D) κ (kcell (c, k))))
          ∗ (bigSep Finset.univ fun k : CK => atPos ER (kcell (c, k)) 0 ∅ 0) ∗ (bigSep Finset.univ fun k : CK => reached ER (kcell (c, k)) 0) ∗ toks (F := F) c) := by
  unfold G
  iintro ⟨Hos, Hus, Hst, Hat, Hr, Htok⟩
  ihave Hv := (sems_eq (F := F) c) $$ [Hos Hus]
  · isplitl [Hos] <;> iassumption
  imod (show iprop((bigSep Finset.univ fun k : CK => semVal (kcell (c, k)) 0) ∗ bigSep Finset.univ fun k : CK => roundState ER (Rd A D) (kcell (c, k)) 0)
      ⊢ (|={Set.univ}=> bigSep Finset.univ fun k : CK => iprop(∃ κ : ℕ, cellInv ER (Rd A D) κ (kcell (c, k))) : sProp 𝕄) from by
        rw [← bigSep_sep']
        exact (bigSep_mono fun k _ => (Rounds.body_intro ER (Rd A D) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- A persistent fact beside a sum is beside each of its terms. -/
theorem beside_each {J : Type} [DecidableEq J] {S : Finset J} {R : sProp 𝕄} [BI.Persistent R] {f g : J → sProp 𝕄}
    (h : ∀ j ∈ S, iprop(R ∗ f j) ⊢ g j) : iprop(R ∗ bigSep S f) ⊢ bigSep S g :=
  (sep_mono_left (BI.bigSep_of_persistent S R)).trans (by rw [← bigSep_sep']; exact bigSep_mono h)

theorem share_intro (K : Dev nD × CK → ℕ) (c : Dev nD) :
    iprop(records A D K ∗ (bigSep Finset.univ fun k : CK => atPos ER (kcell (c, k)) 0 ∅ 0) ∗ toks (F := F) c) ⊢ G' A D c := by
  unfold G'
  iintro ⟨HR, H⟩
  iexists K
  isplitl [HR]; · iexact HR
  iapply (linear_intro (F := F) c)
  iexact H

theorem regroup :
    (bigSep Finset.univ fun c : Dev nD => iprop((bigSep Finset.univ fun k : CK => iprop(∃ κ : ℕ, cellInv ER (Rd A D) κ (kcell (c, k))))
          ∗ (bigSep Finset.univ fun k : CK => atPos ER (kcell (c, k)) 0 ∅ 0) ∗ (bigSep Finset.univ fun k : CK => reached ER (kcell (c, k)) 0) ∗ toks (F := F) c) : sProp 𝕄)
      ⊢ bigSep Finset.univ (G' A D) := by
  rw [bigSep_sep', bigSep_sep', bigSep_sep', ← bigSep_univ_prod (fun x : Dev nD × CK => iprop(∃ κ : ℕ, cellInv ER (Rd A D) κ (kcell x))),
    ← bigSep_univ_prod (fun x : Dev nD × CK => (reached ER (kcell x) 0 : sProp 𝕄))]
  iintro ⟨HI, Hat, HR, Htok⟩
  ihave HK := (BI.bigSep_exists_pi Finset.univ (fun (x : Dev nD × CK) (κ : ℕ) => (cellInv ER (Rd A D) κ (kcell x) : sProp 𝕄))) $$ HI
  icases HK with ⟨%K, HI⟩
  iapply (beside_each (R := records A D K) fun c _ => share_intro A D K c)
  isplitl [HI HR]
  · unfold records
    rw [bigSep_sep']
    isplitl [HI]; · iexact HI
    iexact HR
  rw [bigSep_sep']
  isplitl [Hat]; · iexact Hat
  iexact Htok

/-- The counters of all devices at once become the protocol's invariants, dealt to every device. -/
theorem glob : (bigSep Finset.univ fun c => iprop(Pipeline.ownSems0 (Ix := Unit) (Name := ℕ) (U := UU) (Lvl := ℕ) (Val := Elt F) (τ := τ) osem c ∗ unscopedSems0 c ∗ G A D c) : sProp 𝕄)
    ⊢ |={Set.univ}=> bigSep Finset.univ (G' A D) :=
  ((bigSep_mono fun c _ => core_alloc A D c).trans (bigSep_fupd _ _)).trans (BI.fupd_mono (regroup A D))

/-! ## The launch credit -/

theorem bar_inj {a b : Dev nD} (h : barCell a = barCell b) : a = b := congrArg (fun g : GSem nD τ sig => g.1.1) h
theorem cell_inj {k k' q q' : Fin 4} {a b : Dev nD} (h : dCell k a q = dCell k' b q') : a = b ∧ k = k' ∧ q = q' :=
  ⟨congrArg (fun g : GSem nD τ sig => g.1.1) h, dma_eq (congrArg Prod.snd h)⟩
theorem cell_ne_bar {k q : Fin 4} {a b : Dev nD} : dCell k a q ≠ barCell b := fun h => dma_ne_bar k q (congrArg Prod.snd h)

theorem tallies_apply {ι : Type} (S : Finset ι) (f : ι → GSem nD τ sig) (k : ℕ) (g : GSem nD τ sig) :
    (∑ p ∈ S, (tallyAt (f p) () k : CellTallies nD τ sig Unit)) g () = ∑ p ∈ S, if g = f p then k else 0 := by
  classical
  rw [Finset.sum_apply, Finsupp.finset_sum_apply]
  refine Finset.sum_congr rfl fun p _ => ?_
  rw [tallyAt_apply]
  by_cases h : g = f p
  · rw [if_pos ⟨h, rfl⟩, if_pos h]
  · rw [if_neg fun h' => h h'.1, if_neg h]
theorem tallies_none {ι : Type} (S : Finset ι) (f : ι → GSem nD τ sig) (k : ℕ) (g : GSem nD τ sig) (h : ∀ p, g ≠ f p) :
    (∑ p ∈ S, (tallyAt (f p) () k : CellTallies nD τ sig Unit)) g () = 0 := by
  rw [tallies_apply]
  exact Finset.sum_eq_zero fun p _ => if_neg (h p)

theorem owed_bar (d c : Dev nD) : O₀ d (barCell c) () = if d = c then 0 else 1 := by
  unfold O₀ OW
  rw [Pi.add_apply, Finsupp.add_apply, Pi.add_apply, Finsupp.add_apply, tallies_none _ _ _ _ (fun p => cell_ne_bar.symm),
    tallies_none _ _ _ _ (fun p => cell_ne_bar.symm), tallies_apply, Nat.add_zero]
  rw [Finset.sum_congr rfl fun p _ => (if_congr (⟨bar_inj, fun h => h ▸ rfl⟩ : barCell c = barCell p ↔ c = p) rfl rfl : (if barCell c = barCell p then 1 else 0) = if c = p then 1 else 0),
    Finset.sum_ite_eq]
  by_cases h : d = c
  · rw [if_pos h, if_neg fun h' => (Finset.mem_erase.mp h').1 h.symm]
  · rw [if_neg h, if_pos (Finset.mem_erase.mpr ⟨fun h' => h h'.symm, Finset.mem_univ _⟩)]

theorem sum_cells (k : Fin 4) (d c : Dev nD) {q : Dev nD} (hq : q ≠ c) :
    (∑ p ∈ Finset.univ.erase d, (tallyAt (dCell k p d) () N : CellTallies nD τ sig Unit)) (dCell k c q) () = if d = q then N else 0 := by
  rw [tallies_apply]
  by_cases h : d = q
  · subst h
    rw [if_pos rfl, Finset.sum_eq_single c]
    · exact if_pos rfl
    · exact fun p _ hp => if_neg fun h' => hp (cell_inj h').1.symm
    · exact fun h' => absurd (Finset.mem_erase.mpr ⟨hq.symm, Finset.mem_univ _⟩) h'
  · rw [if_neg h]
    exact Finset.sum_eq_zero fun p _ => if_neg fun h' => h (cell_inj h').2.2.symm

theorem owed_one (d c : Dev nD) {q : Dev nD} (hq : q ≠ c) : O₀ d (dCell 1 c q) () = if d = q then N else 0 := by
  unfold O₀ OW
  rw [Pi.add_apply, Finsupp.add_apply, Pi.add_apply, Finsupp.add_apply, tallies_none _ _ _ _ (fun p => cell_ne_bar),
    tallies_none _ (fun p => dCell 3 p d) _ _ (fun p h => absurd (cell_inj h).2.1 (by decide)), sum_cells 1 d c hq, Nat.add_zero, Nat.zero_add]
theorem owed_two (d c : Dev nD) {q : Dev nD} (hq : q ≠ c) : O₀ d (dCell 3 c q) () = if d = q then N else 0 := by
  unfold O₀ OW
  rw [Pi.add_apply, Finsupp.add_apply, Pi.add_apply, Finsupp.add_apply, tallies_none _ _ _ _ (fun p => cell_ne_bar),
    tallies_none _ (fun p => dCell 1 p d) _ _ (fun p h => absurd (cell_inj h).2.1 (by decide)), sum_cells 3 d c hq, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_cell (k : Fin 4) (c : Dev nD) {q : Dev nD} (h : ∀ d, O₀ d (dCell k c q) () = if d = q then N else 0) :
    tallyOn (dCell k c q) (launchCredit (Pipeline.owing O₀) 0 (dCell k c q)) = (tallyAt (dCell k c q) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ q fun _ => N,
    if_pos (Finset.mem_univ _)]

theorem osem_injective : Function.Injective osem := fun x y h => Prod.ext (dma_eq h).1 (dma_eq h).2

/-- The launch credit of array `k`'s cells on device `c`, its own cell dropped. -/
theorem creds_cells (k : Fin 4) (c : Dev nD) (h : ∀ d q : Dev nD, q ≠ c → O₀ d (dCell k c q) () = if d = q then N else 0) :
    (bigSep Finset.univ fun q : Fin 4 => (cred (tallyOn (dCell k c q) (launchCredit (Pipeline.owing O₀) 0 (dCell k c q))) : sProp 𝕄))
      ⊢ bigSep (others c) fun q => cred (tallyAt (dCell k c q) () N) :=
  (bigSep_subset (Finset.erase_subset c Finset.univ)).trans (bigSep_mono fun q hq => Entails.of_eq
    (congrArg (fun t => (cred t : sProp 𝕄)) (launch_cell k c fun d => h d q (Finset.mem_erase.mp hq).1)))

theorem keep_two {P₀ P₁ P₂ P₃ Q₁ Q₃ : sProp 𝕄} (h1 : P₁ ⊢ Q₁) (h3 : P₃ ⊢ Q₃) : iprop(P₀ ∗ P₁ ∗ P₂ ∗ P₃) ⊢ iprop(Q₁ ∗ Q₃) := by
  iintro ⟨-, H1, -, H3⟩
  isplitl [H1]
  · iapply h1; iexact H1
  iapply h3; iexact H3

/-- A device's launch credit holds what the others owe it. -/
theorem creds (c : Dev nD) : (Pipeline.launchCred O₀ c : sProp 𝕄) ⊢ credits (F := F) c := by
  unfold Pipeline.launchCred credits
  rw [bigSep_univ_at _ (SemLoc.reg barS), launch_bar]
  refine sep_mono_right ?_
  have hsub : Finset.univ.map ⟨osem, osem_injective⟩ ⊆ (Finset.univ : Finset (SemLoc sig)).erase (SemLoc.reg barS) := by
    intro s hs
    obtain ⟨x, -, rfl⟩ := Finset.mem_map.mp hs
    exact Finset.mem_erase.mpr ⟨dma_ne_bar _ _, Finset.mem_univ _⟩
  refine (bigSep_subset hsub).trans ?_
  rw [bigSep_map, bigSep_univ_prod, four]
  exact keep_two (creds_cells 1 c fun d q hq => owed_one d c hq) (creds_cells 3 c fun d q hq => owed_two d c hq)

end Cert.KernelIdeal.Reduce
-- ==== Proof.KernelIdeal.Launch.lean ====
/-
# The run of the kernel on four devices

From any memory with every semaphore counter at zero, every fair run of the four devices ends, each device's
output array holds the computed rows, its argument arrays hold what they held, and every counter is at zero.
-/
module

public import proofs.«01_k».proof.Proof.KernelIdeal.Deal
public import Idealize.ShloMosaic.Lib.Pipeline.ValueKit.Geometry
public import Idealize.ShloMosaic.Lib.StableHlo.RunHlo
public import Idealize.ShloMosaic.Lib.Pipeline.CollectiveSegs

@[expose] public section

set_option maxRecDepth 16384

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The memory the run starts from. -/
def s₀ : MemSt nD τ sig (Elt F) := ⟨m, fun _ => 0, ρ⟩

/-- What device `c`'s input windows bring to the body. -/
def ins (c : Dev nD) : Ins F where
  x := (win0_0.blk (0 : Fin 1)).view.read (Elt F) ((s₀ m ρ).mem ((c : Thread nD τ).loc main_arg0))
  r := (win0_1.blk (0 : Fin 1)).view.read (Elt F) ((s₀ m ρ).mem ((c : Thread nD τ).loc main_arg1))
  i := (win0_2.blk (0 : Fin 1)).view.read (Elt F) ((s₀ m ρ).mem ((c : Thread nD τ).loc main_arg2))
  e := (win0_3.blk (0 : Fin 1)).view.read (Elt F) ((s₀ m ρ).mem ((c : Thread nD τ).loc main_arg3))
  w := (win0_4.blk (0 : Fin 1)).view.read (Elt F) ((s₀ m ρ).mem ((c : Thread nD τ).loc main_arg4))

/-- What device `c` starts from: its share of the protocol, its credits and the order of the waits. -/
def start (c : Dev nD) : sProp 𝕄 :=
  iprop(G' (blkA (ins m ρ)) (redD (ins m ρ)) c ∗ credits (F := F) c ∗ levAts L lv)

/-- The proof data of the one region: before the body the device's start and its scratch buffers, after it the scratch
    buffers and the counters at zero. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).r
    | ⟨2, _⟩ => (ins m ρ c).i
    | ⟨3, _⟩ => (ins m ρ c).e
    | ⟨4, _⟩ => (ins m ρ c).w
    | ⟨5, _⟩ => outV (ins m ρ) c
  Φ t := match t with
    | ⟨0, _⟩ => iprop(start m ρ c ∗ scratch (F := F) c)
    | ⟨_ + 1, _⟩ => iprop(scratch (F := F) c ∗ zeros (F := F) c)
  q _ := fullShare
  owed t := match t with
    | ⟨0, _⟩ => O₀ c
    | ⟨_ + 1, _⟩ => 0

/-- The one point. -/
abbrev t₀ : Fin cfg0.N := t0_0
theorem fin_N (t : Fin cfg0.N) : t = t₀ := fin_N0 t

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A buffer whole at some contents known to be `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]
theorem held_out (c : Dev nD) (b : Ref sig .tc) (X : b.ty.Contents (Elt F)) : held c b X ⊢ stg c b X := by
  iintro ⟨%f, %h, H⟩
  subst h
  iexact H
theorem held_in (c : Dev nD) (b : Ref sig .tc) (X : b.ty.Contents (Elt F)) : stg c b X ⊢ held c b X := by
  iintro H
  iexists X
  isplitr; · ipureintro; rfl
  iexact H
/-- An input window's buffer at the body's start. -/
theorem held_before (c : Dev nD) (b : Ref sig .tc) (X : b.ty.Contents (Elt F)) {J : Type} (Y : J → b.ty.Contents (Elt F)) (h : ∀ d, Y d = X) :
    (iprop(∃ d, held c b (Y d)) : sProp 𝕄) ⊢ stg c b X := by
  iintro ⟨%d, H⟩
  iapply (held_out c b X)
  rw [← h d]
  iexact H
/-- An output window's buffer at the body's start. -/
theorem held_any (c : Dev nD) (b : Ref sig .tc) {J : Type} (Y : J → b.ty.Contents (Elt F)) :
    (iprop(∃ d, held c b (Y d)) : sProp 𝕄) ⊢ iprop(∃ f, stg c b f) := by
  iintro ⟨%d, H⟩
  iexists (Y d)
  iapply (held_out c b (Y d))
  iexact H

/-! ## The body obligation -/

theorem fetches (w : Fin 6) (h : w ≠ 5) : (cfg0.win w).fetch t₀ = true := by revert w; decide
theorem before_0 (c : Dev nD) (d) : (dats m ρ 0 c).before (0 : Fin 6) t₀ d = (ins m ρ c).x := by
  unfold Dat.before; rw [if_pos (fetches 0 (by decide))]; rfl
theorem before_1 (c : Dev nD) (d) : (dats m ρ 0 c).before (1 : Fin 6) t₀ d = (ins m ρ c).r := by
  unfold Dat.before; rw [if_pos (fetches 1 (by decide))]; rfl
theorem before_2 (c : Dev nD) (d) : (dats m ρ 0 c).before (2 : Fin 6) t₀ d = (ins m ρ c).i := by
  unfold Dat.before; rw [if_pos (fetches 2 (by decide))]; rfl
theorem before_3 (c : Dev nD) (d) : (dats m ρ 0 c).before (3 : Fin 6) t₀ d = (ins m ρ c).e := by
  unfold Dat.before; rw [if_pos (fetches 3 (by decide))]; rfl
theorem before_4 (c : Dev nD) (d) : (dats m ρ 0 c).before (4 : Fin 6) t₀ d = (ins m ρ c).w := by
  unfold Dat.before; rw [if_pos (fetches 4 (by decide))]; rfl

/-- The staging buffers at the body's start. -/
theorem windows_in (c : Dev nD) :
    iprop((∃ d, held c cc0_stg0_0 ((dats m ρ 0 c).before (0 : Fin 6) t₀ d)) ∗ (∃ d, held c cc0_stg1_0 ((dats m ρ 0 c).before (1 : Fin 6) t₀ d))
      ∗ (∃ d, held c cc0_stg2_0 ((dats m ρ 0 c).before (2 : Fin 6) t₀ d)) ∗ (∃ d, held c cc0_stg3_0 ((dats m ρ 0 c).before (3 : Fin 6) t₀ d))
      ∗ (∃ d, held c cc0_stg4_0 ((dats m ρ 0 c).before (4 : Fin 6) t₀ d)) ∗ (∃ d, held c cc0_stg5_0 ((dats m ρ 0 c).before (5 : Fin 6) t₀ d)))
      ⊢ (iprop(∃ f, windows (ins m ρ) c f) : sProp 𝕄) := by
  iintro ⟨H0, H1, H2, H3, H4, H5⟩
  ihave H5 := (held_any c cc0_stg5_0 fun d => (dats m ρ 0 c).before (5 : Fin 6) t₀ d) $$ H5
  icases H5 with ⟨%f, H5⟩
  iexists f
  unfold windows
  isplitl [H0]; · iapply (held_before c cc0_stg0_0 (ins m ρ c).x _ (before_0 m ρ c)); iexact H0
  isplitl [H1]; · iapply (held_before c cc0_stg1_0 (ins m ρ c).r _ (before_1 m ρ c)); iexact H1
  isplitl [H2]; · iapply (held_before c cc0_stg2_0 (ins m ρ c).i _ (before_2 m ρ c)); iexact H2
  isplitl [H3]; · iapply (held_before c cc0_stg3_0 (ins m ρ c).e _ (before_3 m ρ c)); iexact H3
  isplitl [H4]; · iapply (held_before c cc0_stg4_0 (ins m ρ c).w _ (before_4 m ρ c)); iexact H4
  iexact H5

/-- The staging buffers at the body's end. -/
theorem windows_out (c : Dev nD) :
    windows (ins m ρ) c (outV (ins m ρ) c)
      ⊢ iprop(held c cc0_stg0_0 (ins m ρ c).x ∗ held c cc0_stg1_0 (ins m ρ c).r ∗ held c cc0_stg2_0 (ins m ρ c).i
        ∗ held c cc0_stg3_0 (ins m ρ c).e ∗ held c cc0_stg4_0 (ins m ρ c).w ∗ held c cc0_stg5_0 (outV (ins m ρ) c)) := by
  unfold windows
  iintro ⟨H0, H1, H2, H3, H4, H5⟩
  isplitl [H0]; · iapply (held_in c cc0_stg0_0 (ins m ρ c).x); iexact H0
  isplitl [H1]; · iapply (held_in c cc0_stg1_0 (ins m ρ c).r); iexact H1
  isplitl [H2]; · iapply (held_in c cc0_stg2_0 (ins m ρ c).i); iexact H2
  isplitl [H3]; · iapply (held_in c cc0_stg3_0 (ins m ρ c).e); iexact H3
  isplitl [H4]; · iapply (held_in c cc0_stg4_0 (ins m ρ c).w); iexact H4
  iapply (held_in c cc0_stg5_0 (outV (ins m ρ) c)); iexact H5

def bodyPre (c : Dev nD) : sProp 𝕄 :=
  iprop((start m ρ c ∗ scratch (F := F) c) ∗ (dats m ρ 0 c).owesAt () t₀.castSucc
    ∗ (∃ d, held c cc0_stg0_0 ((dats m ρ 0 c).before (0 : Fin 6) t₀ d)) ∗ (∃ d, held c cc0_stg1_0 ((dats m ρ 0 c).before (1 : Fin 6) t₀ d))
      ∗ (∃ d, held c cc0_stg2_0 ((dats m ρ 0 c).before (2 : Fin 6) t₀ d)) ∗ (∃ d, held c cc0_stg3_0 ((dats m ρ 0 c).before (3 : Fin 6) t₀ d))
      ∗ (∃ d, held c cc0_stg4_0 ((dats m ρ 0 c).before (4 : Fin 6) t₀ d)) ∗ (∃ d, held c cc0_stg5_0 ((dats m ρ 0 c).before (5 : Fin 6) t₀ d)))
def bodyPost (c : Dev nD) : sProp 𝕄 :=
  iprop((scratch (F := F) c ∗ zeros (F := F) c) ∗ (dats m ρ 0 c).owesAt () t₀.succ
    ∗ held c cc0_stg0_0 (ins m ρ c).x ∗ held c cc0_stg1_0 (ins m ρ c).r ∗ held c cc0_stg2_0 (ins m ρ c).i
    ∗ held c cc0_stg3_0 (ins m ρ c).e ∗ held c cc0_stg4_0 (ins m ρ c).w ∗ held c cc0_stg5_0 (outV (ins m ρ) c))

theorem owes_in (c : Dev nD) : (dats m ρ 0 c).owesAt () t₀.castSucc ⊢ ow (F := F) c (O₀ c) := by
  unfold Dat.owesAt Pipeline.owesWithin ow
  rw [show (dats m ρ 0 c).owed t₀.castSucc = O₀ c from rfl]
  iintro ⟨%W, %hW, HO⟩
  iexists W
  iexact HO
theorem owes_out (c : Dev nD) : ow (F := F) c 0 ⊢ (dats m ρ 0 c).owesAt () t₀.succ := by
  unfold Dat.owesAt Pipeline.owesWithin ow
  rw [show (dats m ρ 0 c).owed t₀.succ = 0 from rfl]
  iintro ⟨%W, HO⟩
  iexists W
  isplitr; · ipureintro; exact fun _ _ => Or.inl trivial
  iexact HO

/-- The library's body obligation at device `c`. -/
theorem body_obligation (c : Dev nD) : BodyObligation (dats (F := F) m ρ 0 c) (defs₀ (F := F)) 𝒱₀ () Set.univ := fun t => by
  rw [fin_N t]
  rw [bigSep_W, bigSep_W]
  simp only [owns_whole]
  show bodyPre m ρ c ⊢ wp frame (wpE (defs₀ (F := F)) 𝒱₀ c none) Set.univ
    (cc0_body xM (Memref.isWhole_whole _) rM (Memref.isWhole_whole _) iM (Memref.isWhole_whole _) eM (Memref.isWhole_whole _) wM (Memref.isWhole_whole _)
      oM (Memref.isWhole_whole _) pM (Memref.isWhole_whole _) aM (Memref.isWhole_whole _) dM (Memref.isWhole_whole _) bM (Memref.isWhole_whole _)
      cc0_scratch4 cc0_scratch5 cc0_scratch6 cc0_scratch7) (fun _ => bodyPost m ρ c)
  unfold bodyPre start G'
  iintro ⟨⟨⟨⟨%K, HR, Hlin⟩, Hcr, Hlev⟩, Hs⟩, HO, HW⟩
  ihave HW := (windows_in m ρ c) $$ HW
  icases HW with ⟨%f, HW⟩
  ihave HO := (owes_in m ρ c) $$ HO
  iapply (sound_body (ins m ρ) K _ _ _ _ _ _ _ _ _ _ c f (Q := fun _ => bodyPost m ρ c))
  unfold bodyIn
  isplitl [HR Hlin Hcr Hlev Hs HO]
  · isplitl [HR]; · iexact HR
    isplitl [Hlev]; · iexact Hlev
    isplitl [Hlin]; · iexact Hlin
    isplitl [Hcr]; · iexact Hcr
    isplitl [Hs]; · iexact Hs
    iexact HO
  isplitl [HW]; · iexact HW
  iintro Hs Hz HO HW
  unfold bodyPost
  isplitl [Hs Hz]
  · isplitl [Hs]; · iexact Hs
    iexact Hz
  isplitl [HO]; · iapply (owes_out m ρ c); iexact HO
  iapply (windows_out m ρ c)
  iexact HW

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blkA (ins m ρ)) (redD (ins m ρ)) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch (F := F) c) from rfl, scopedRest0_eq]
  unfold scratch
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch (F := F) c ∗ zeros (F := F) c) from rfl, scopedRest0_eq]
  iintro ⟨Hs, Hz⟩
  ihave Hz := (zeros_exit (F := F) c) $$ Hz
  icases Hz with ⟨HB, Ho⟩
  isplitl [HB]; · iexact HB
  isplitl [Ho]; · iexact Ho
  unfold scratch
  iexact Hs

/-- The staging semaphores are waited on below everything the device owes. -/
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () ≤ 0 := le_of_eq (lv_low _ (fun h => by cases h)
      (fun q h => ownSemFacts.disj (1, q) w s h.symm) (fun q h => ownSemFacts.disj (3, q) w s h.symm))
    rcases t with ⟨_ | _, ht⟩
    · exact mayWait_cut c _ _ _ _ 0 hl (fun _ => by decide) (fun _ => by decide) (fun _ => by decide)
    · have h0 := mayWait_cut (F := F) c (.dma ((cfg0.win w).sem s)) ∅ ∅ ∅ 0 hl (fun _ => by decide) (fun _ => by decide) (fun _ => by decide)
      rw [OW_nil] at h0
      exact h0

/-! ## The run -/

/-- What window `w`'s array on device `c` holds in the end. -/
def finalA (c : Dev nD) (w : Fin cfg0.W) : Buf (Elt F) ((cfg0.win w).arr.view.loc (c : Thread nD τ)) := (dats m ρ 0 c).arrAt w cfg0.N

/-- Every fair run ends with each array at its final contents and every counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (blkA (ins m ρ)) (redD (ins m ρ))) (G' := G' (blkA (ins m ρ)) (redD (ins m ρ))) (u₀ := u₀)
    (hu₀ := by
      unfold u₀
      iintro Hu
      ihave H := (ownU_pair _ _) $$ Hu
      icases H with ⟨HP, HX⟩
      imod (fund_ring (blkA (ins m ρ)) (redD (ins m ρ))) $$ HX with HG
      imodintro
      isplitl [HP] <;> iassumption)
    (hglob := glob (blkA (ins m ρ)) (redD (ins m ρ)))
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds what it held. -/
theorem final_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The output's array holds the computed rows. -/
theorem final_out (c : Dev nD) : finalA m ρ c (5 : Fin 6) = outV (ins m ρ) c :=
  (dats (F := F) m ρ 0 c).arrAt_eq_of_after_last (5 : Fin 6) t₀ (by decide +kernel) (outV (ins m ρ) c) fun j => rfl

/-- Every fair run of the four devices ends with the computed rows in each device's output, the arguments unchanged and
    every counter at zero. -/
theorem run_main : θ_run defs (onTc (τ := τ) (main (F := F))) ⟨m, fun _ => 0, ρ⟩
    (fun r => (∀ c : Dev nD, r.2.mem ((c : Thread nD τ).loc main_v1) = outV (ins m ρ) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  θ_run_mono (run_arrays m ρ) fun r h => ⟨fun c => ⟨(h.1 c (5 : Fin 6)).trans (final_out m ρ c), (h.1 c (0 : Fin 6)).trans (final_in m ρ c 0 rfl),
    (h.1 c (1 : Fin 6)).trans (final_in m ρ c 1 rfl), (h.1 c (2 : Fin 6)).trans (final_in m ρ c 2 rfl),
    (h.1 c (3 : Fin 6)).trans (final_in m ρ c 3 rfl), (h.1 c (4 : Fin 6)).trans (final_in m ρ c 4 rfl)⟩, h.2⟩

end Cert.KernelIdeal.Reduce
-- ==== Proof.Frames.lean ====
/-
# The frames

Each of the three programs runs to its end from any memory with every counter at zero, leaves its arguments as they
were, and leaves every semaphore counter at zero. The kernel's two frames are its run with the result dropped; the
reference declares no semaphore.
-/
module

public import proofs.«01_k».proof.Proof.Kernel.Launch
public import proofs.«01_k».proof.Proof.KernelIdeal.Launch
public import proofs.«01_k».proof.Proof.Gen.ReferenceIdeal.Run
public import Idealize.ShloMosaic.Lib.Quiescent
public import proofs.«01_k».proof.Defs

@[expose] public section

set_option maxRecDepth 16384

noncomputable section

namespace Cert

open Idealize.ShloMosaic Idealize.ShloMosaic.TcCoe Idealize.SL.Sem

/-- The reference's run, with its result, its arguments and its counters. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_v30) = ReferenceIdeal.Value.res_out0 m c
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  θ_run_mono (ReferenceIdeal.Value.run m ρ) fun r h => ⟨h, sem_eq_zero_of_no_sems rfl r.2⟩

theorem frame_kernel : quiescent_Kernel (hKernel := Kernel.Gen.facts) := fun m g _ =>
  θ_run_mono (Kernel.Reduce.run_main m g) fun _ h => ⟨fun c => (h.1 c).2, h.2⟩

theorem frame_kernelIdeal : quiescent_KernelIdeal (hKernelIdeal := KernelIdeal.Gen.facts) := fun m g _ =>
  θ_run_mono (KernelIdeal.Reduce.run_main m g) fun _ h => ⟨fun c => (h.1 c).2, h.2⟩

theorem frame_referenceIdeal : quiescent_ReferenceIdeal (hReferenceIdeal := ReferenceIdeal.Gen.facts) := fun m g _ =>
  θ_run_mono (reference_run m g) fun _ h => ⟨fun c => (h.1 c).2, h.2⟩

end Cert
-- ==== Proof.Value.Spec.lean ====
/-
# What both programs compute, entry by entry

The layer as extended-real formulas over its five arrays: the router's scores, their softmax, the product of a token
with one expert's weights, the product with the shared weights, and a token's output.
-/
module

public import Idealize.ShloMosaic.PureOps.Ideal
public import Idealize.ShloMosaic.Lib.Pointwise.Index

@[expose] public section

noncomputable section

namespace Cert.Spec

open Idealize.ShloMosaic
open scoped BigOperators

/-- The tokens. -/
abbrev Tokens := (⟨2, ![512, 256]⟩ : Shape).Idx → EReal
/-- The router's weights. -/
abbrev Router := (⟨2, ![256, 8]⟩ : Shape).Idx → EReal
/-- The expert that each token is routed to. -/
abbrev Routes := (⟨2, ![512, 1]⟩ : Shape).Idx → BitVec 32
/-- The eight experts' weights. -/
abbrev Experts := (⟨3, ![8, 256, 512]⟩ : Shape).Idx → EReal
/-- The shared expert's weights. -/
abbrev Shared := (⟨2, ![256, 512]⟩ : Shape).Idx → EReal

/-- The router's score of token `n` for expert `j`. -/
def score (x : Tokens) (r : Router) (n : Fin 512) (j : Fin 8) : EReal := ∑ d : Fin 256, x (ix2 n d) * r (ix2 d j)
/-- The greatest of token `n`'s scores. -/
def top (x : Tokens) (r : Router) (n : Fin 512) : EReal := (Finset.univ : Finset (Fin 8)).fold max ⊥ (score x r n)
/-- The exponential of how far token `n`'s score for expert `j` lies below the greatest. -/
def expo (x : Tokens) (r : Router) (n : Fin 512) (j : Fin 8) : EReal := Ideal.exp (score x r n j - top x r n)
/-- The softmax of token `n`'s scores, at expert `j`. -/
def prob (x : Tokens) (r : Router) (n : Fin 512) (j : Fin 8) : EReal := Ideal.div (expo x r n j) (∑ k : Fin 8, expo x r n k)
/-- Entry `h` of token `n` times expert `j`'s weights. -/
def expert (x : Tokens) (e : Experts) (n : Fin 512) (j : Fin 8) (h : Fin 512) : EReal := ∑ d : Fin 256, x (ix2 n d) * e (ix3 j d h)
/-- Entry `h` of token `n` times the shared weights. -/
def shared (x : Tokens) (w : Shared) (n : Fin 512) (h : Fin 512) : EReal := ∑ d : Fin 256, x (ix2 n d) * w (ix2 d h)

/-- What expert `j` adds to entry `h` of token `n`: the gated product if the token is routed to it, nothing otherwise. -/
def term (x : Tokens) (r : Router) (i : Routes) (e : Experts) (n : Fin 512) (h : Fin 512) (j : Fin 8) : EReal :=
  if i (ix2 n (0 : Fin 1)) = BitVec.ofNat 32 j.val then prob x r n j * expert x e n j h else 0
/-- What the experts together add to entry `h` of token `n`; nothing, if the route names no expert. -/
def routed (x : Tokens) (r : Router) (i : Routes) (e : Experts) (n : Fin 512) (h : Fin 512) : EReal :=
  ∑ j : Fin 8, term x r i e n h j
/-- Entry `h` of token `n`'s output. -/
def out (x : Tokens) (r : Router) (i : Routes) (e : Experts) (w : Shared) (n : Fin 512) (h : Fin 512) : EReal :=
  shared x w n h + routed x r i e n h

end Cert.Spec

end
-- ==== Proof.Value.Maths.lean ====
/-
# The arithmetic that the value claim rests on

Extended reals: a nonnegative real factor moves in and out of a sum; the softmax of finitely many real scores is real
and not negative. Words: which expert an index names.
-/
module

public import Idealize.ShloMosaic.PureOps.Ideal
public import Idealize.ShloMosaic.PureOps.Ideal.Laws

@[expose] public section

noncomputable section

namespace Cert.Maths

open Idealize.ShloMosaic
open scoped BigOperators

/-- A nonnegative real factor distributes over a finite sum of extended reals. -/
theorem mul_sum {ι : Type} (s : Finset ι) {p : EReal} (h0 : 0 ≤ p) (h1 : p ≠ ⊤) (f : ι → EReal) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 h1, ih]

/-- Scaling the left operand of an inner product by a nonnegative real scales the product. -/
theorem scaled_dot {K : Nat} {p : EReal} (h0 : 0 ≤ p) (h1 : p ≠ ⊤) (x w : Fin K → EReal) :
    ∑ d : Fin K, x d * p * w d = p * ∑ d : Fin K, x d * w d := by
  rw [mul_sum _ h0 h1]
  exact Finset.sum_congr rfl (fun d _ => by rw [mul_comm (x d) p, mul_assoc])

/-- An extended real whose absolute value lies below infinity is neither infinity. -/
theorem finite_of_abs_lt {x : EReal} (h : max x (-x) < ⊤) : x ≠ ⊤ ∧ x ≠ ⊥ := by
  refine ⟨fun e => ?_, fun e => ?_⟩ <;> subst e <;> simp at h

/-- The sum of a family of reals, taken among the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of finite extended reals is a real. -/
theorem real_dot {K : Nat} (x w : Fin K → EReal) (hx : ∀ d, x d ≠ ⊤ ∧ x d ≠ ⊥) (hw : ∀ d, w d ≠ ⊤ ∧ w d ≠ ⊥) :
    ∃ r : ℝ, ∑ d : Fin K, x d * w d = (r : EReal) := by
  refine ⟨∑ d : Fin K, (x d).toReal * (w d).toReal, ?_⟩
  rw [coe_sum]
  refine Finset.sum_congr rfl (fun d _ => ?_)
  rw [EReal.coe_mul, EReal.coe_toReal (hx d).1 (hx d).2, EReal.coe_toReal (hw d).1 (hw d).2]

/-- The greatest of a family of reals, folded from negative infinity, is negative infinity or a real. -/
theorem fold_max_real {ι : Type} (s : Finset ι) (f : ι → ℝ) :
    s.fold max (⊥ : EReal) (fun i => (f i : EReal)) = ⊥ ∨ ∃ r : ℝ, s.fold max (⊥ : EReal) (fun i => (f i : EReal)) = (r : EReal) := by
  classical
  induction s using Finset.induction_on with
  | empty => exact Or.inl rfl
  | insert a s ha ih =>
    rw [Finset.fold_insert ha]
    rcases ih with h | ⟨r, h⟩
    · exact Or.inr ⟨f a, by rw [h]; exact max_eq_left bot_le⟩
    · exact Or.inr ⟨max (f a) r, by rw [h]; exact (EReal.coe_strictMono.monotone.map_max).symm⟩

/-- The greatest of a nonempty family of reals is a real. -/
theorem fold_max_univ {N : Nat} (f : Fin (N + 1) → ℝ) :
    ∃ r : ℝ, (Finset.univ : Finset (Fin (N + 1))).fold max (⊥ : EReal) (fun i => (f i : EReal)) = (r : EReal) := by
  rcases fold_max_real Finset.univ f with h | h
  · exfalso
    have hle : ((f 0 : ℝ) : EReal) ≤ (Finset.univ : Finset (Fin (N + 1))).fold max (⊥ : EReal) (fun i => (f i : EReal)) :=
      Finset.le_fold_max _ |>.mpr (Or.inr ⟨0, Finset.mem_univ _, le_refl _⟩)
    rw [h] at hle
    exact EReal.coe_ne_bot _ (le_bot_iff.mp hle)
  · exact h

/-- The softmax of real scores is not negative and not infinite. -/
theorem softmax_real {N : Nat} (s : Fin (N + 1) → EReal) (hs : ∀ j, ∃ r : ℝ, s j = (r : EReal)) (j : Fin (N + 1)) :
    0 ≤ Ideal.div (Ideal.exp (s j - Finset.univ.fold max ⊥ s)) (∑ k, Ideal.exp (s k - Finset.univ.fold max ⊥ s))
    ∧ Ideal.div (Ideal.exp (s j - Finset.univ.fold max ⊥ s)) (∑ k, Ideal.exp (s k - Finset.univ.fold max ⊥ s)) ≠ ⊤ := by
  choose f hf using hs
  obtain rfl : s = fun i => ((f i : ℝ) : EReal) := funext hf
  obtain ⟨m, hm⟩ := fold_max_univ f
  rw [hm]
  have he : ∀ k, Ideal.exp (((f k : ℝ) : EReal) - (m : EReal)) = ((Real.exp (f k - m) : ℝ) : EReal) := fun k => by
    rw [← EReal.coe_sub]; rfl
  simp only [he]
  rw [← coe_sum]
  have hpos : 0 < ∑ k, Real.exp (f k - m) :=
    Finset.sum_pos (fun k _ => Real.exp_pos _) ⟨0, Finset.mem_univ _⟩
  have hne : ((∑ k, Real.exp (f k - m) : ℝ) : EReal) ≠ 0 := fun h => hpos.ne' (by exact_mod_cast h)
  unfold Ideal.div
  rw [if_neg hne, ← EReal.coe_inv, ← EReal.coe_mul]
  exact ⟨by exact_mod_cast mul_nonneg (Real.exp_pos _).le (inv_nonneg.mpr hpos.le), EReal.coe_ne_top _⟩

/-- The row of the experts' array that a clamped index selects: the index clamped to `0 … 7`, eight added if that is
    negative (it never is). -/
def slot (r : BitVec 32) : BitVec 32 :=
  Scalar.select (IntOp.cmpi .slt (IntOp.minsi 7#32 (IntOp.maxsi 0#32 r)) 0#32)
    (IntOp.addi (IntOp.minsi 7#32 (IntOp.maxsi 0#32 r)) 8#32) (IntOp.minsi 7#32 (IntOp.maxsi 0#32 r))

/-- A word that names an expert is one of the eight. -/
theorem word_of_named (r : BitVec 32) (h : IntOp.andi (IntOp.cmpi .sge r 0#32) (IntOp.cmpi .slt r 8#32) = 1#1) :
    ∃ j : Fin 8, r = BitVec.ofNat 32 j.val := by
  have h' : (0#32).sle r = true ∧ r.slt 8#32 = true := by
    revert h
    simp only [IntOp.andi, IntOp.cmpi]
    cases (0#32).sle r <;> cases r.slt 8#32 <;> simp
  have h0 : (0 : Int) ≤ r.toInt := by simpa [BitVec.sle] using h'.1
  have h1 : r.toInt < 8 := by simpa [BitVec.slt] using h'.2
  have hn : r.toNat < 8 := by
    rw [BitVec.toInt_eq_toNat_cond] at h0 h1
    have := r.isLt
    split at h0 <;> split at h1 <;> omega
  exact ⟨⟨r.toNat, hn⟩, by simp⟩

/-- Taking the selected expert's term, or zero if the word names no expert, is summing over the eight experts the terms of
    those that the word is equal to. -/
theorem select_named (r : BitVec 32) (T : Fin 8 → EReal) :
    Scalar.select (IntOp.andi (IntOp.cmpi .sge r 0#32) (IntOp.cmpi .slt r 8#32)) (T ⟨min (slot r).toInt.toNat 7, by omega⟩) 0
      = ∑ j : Fin 8, if r = BitVec.ofNat 32 j.val then T j else 0 := by
  by_cases h : ∃ j : Fin 8, r = BitVec.ofNat 32 j.val
  · obtain ⟨j, rfl⟩ := h
    have hs : ∀ k : Fin 8, (BitVec.ofNat 32 j.val = BitVec.ofNat 32 k.val) ↔ k = j := by revert j; decide
    have hj : (⟨min (slot (BitVec.ofNat 32 j.val)).toInt.toNat 7, by omega⟩ : Fin 8) = j := by revert j; decide
    have hn : IntOp.andi (IntOp.cmpi .sge (BitVec.ofNat 32 j.val) 0#32) (IntOp.cmpi .slt (BitVec.ofNat 32 j.val) 8#32) = 1#1 := by
      revert j; decide
    rw [hj, hn]
    simp only [hs]
    rw [Finset.sum_ite_eq' Finset.univ j T]
    simp [Scalar.select]
  · have hn : IntOp.andi (IntOp.cmpi .sge r 0#32) (IntOp.cmpi .slt r 8#32) ≠ 1#1 := fun e => h (word_of_named r e)
    rw [Finset.sum_eq_zero (fun j _ => if_neg (fun e => h ⟨j, e⟩))]
    exact if_neg hn

/-- The mask of a comparison, widened and converted, is one where the words agree and zero elsewhere. -/
theorem mask (a b : BitVec 32) :
    FloatOps.sitofp (F := Ideal) .f32 (BitVec.setWidth 32 (IntOp.cmpi CmpIPredicate.eq a b)) = if a = b then (1 : EReal) else 0 := by
  by_cases h : a = b
  · rw [if_pos h, show IntOp.cmpi CmpIPredicate.eq a b = 1#1 by simp [IntOp.cmpi, h]]
    show (((BitVec.setWidth 32 1#1).toInt : ℝ) : EReal) = 1
    rw [show (BitVec.setWidth 32 1#1).toInt = 1 by decide]
    simp
  · rw [if_neg h, show IntOp.cmpi CmpIPredicate.eq a b = 0#1 by
      rw [show IntOp.cmpi CmpIPredicate.eq a b = BitVec.ofBool (a == b) from rfl, beq_false_of_ne h]; rfl]
    show (((BitVec.setWidth 32 0#1).toInt : ℝ) : EReal) = 0
    rw [show (BitVec.setWidth 32 0#1).toInt = 0 by decide]
    simp

/-- Summing eight terms under the mask of one expert picks that expert's term. -/
theorem masked_sum (f : Fin 8 → EReal) (e : Fin 8) :
    ∑ j : Fin 8, f j * FloatOps.sitofp (F := Ideal) .f32
        (BitVec.setWidth 32 (IntOp.cmpi CmpIPredicate.eq (BitVec.ofNat 32 j.val) (BitVec.ofNat 32 e.val))) = f e := by
  have hs : ∀ j : Fin 8, (BitVec.ofNat 32 j.val = BitVec.ofNat 32 e.val) ↔ j = e := by revert e; decide
  simp only [mask, hs, mul_ite, mul_one, mul_zero]
  rw [Finset.sum_ite_eq' Finset.univ e f]
  simp

/-- The bits of negative infinity at single precision. -/
theorem ofBits_neg_inf : Ideal.ofBits FTy.f32 0xFF800000#32 = ⊥ := by simp [Ideal.ofBits, Ideal.ieee]

end Cert.Maths

end
-- ==== Proof.Value.Kernel.lean ====
/-
# The kernel's values at an entry

Each of the body's steps read at one entry as an extended real: the softmax of the scores, the tokens scaled by a gate, a
block of partial products, the sum of the four blocks, and a row block of the output.
-/
module

public import proofs.«01_k».proof.Proof.Value.Spec
public import proofs.«01_k».proof.Proof.Value.Maths
public import proofs.«01_k».proof.Proof.KernelIdeal.Contents
public import Idealize.ShloMosaic.Lib.Pointwise

@[expose] public section

set_option maxRecDepth 16384

noncomputable section

namespace Cert.KernelIdeal.Value

open Idealize.ShloMosaic Cert.KernelIdeal Cert.KernelIdeal.Gen Cert.KernelIdeal.Reduce Cert.Spec Cert.Maths
open scoped BigOperators

/-- The exponentials that the kernel takes are those of the scores' distances below the greatest. -/
theorem pay2_at (x : Tokens) (r : Router) (n : Fin 512) (j : Fin 8) : k0_pay2 (F := Ideal) x r (ix2 n j) = expo x r n j := by
  unfold k0_pay2 k0_pay1
  pointwise
  rw [ofBits_neg_inf]
  rfl

/-- The kernel's normalisation divides an entry by its row's sum. -/
theorem pay3_at (v : (⟨2, ![512, 8]⟩ : Shape).Idx → EReal) (n : Fin 512) (j : Fin 8) :
    k0_pay3 (F := Ideal) v (ix2 n j) = Ideal.div (v (ix2 n j)) (∑ k : Fin 8, v (ix2 n k)) := by
  unfold k0_pay3
  pointwise

/-- The kernel's softmax is the specification's. -/
theorem prob_at (x : Tokens) (r : Router) (n : Fin 512) (j : Fin 8) :
    k0_pay3 (F := Ideal) (k0_pay2 (F := Ideal) x r) (ix2 n j) = prob x r n j := by
  rw [pay3_at]
  simp only [pay2_at]
  rfl

/-- The experts that device `c` holds: numbers `2 c` and `2 c + 1`. -/
def held (c : Dev nD) (k : Fin 2) : Fin 8 := ⟨2 * c.val + k.val, by have : c.val < 4 := c.isLt; omega⟩

/-- A token scaled by its gate for one expert: the token times the softmax if it is routed there, zero otherwise. -/
def scaled (x : Tokens) (r : Router) (i : Routes) (n : Fin 512) (d : Fin 256) (j : Fin 8) : EReal :=
  if i (ix2 n (0 : Fin 1)) = BitVec.ofNat 32 j.val then x (ix2 n d) * prob x r n j else 0

theorem held_word0 (c : Dev nD) : Scalar.addi (Scalar.muli (place c) 2#32) 0#32 = BitVec.ofNat 32 (held c 0).val := by
  revert c; decide
theorem held_word1 (c : Dev nD) : Scalar.addi (Scalar.muli (place c) 2#32) 1#32 = BitVec.ofNat 32 (held c 1).val := by
  revert c; decide

/-- Choosing by a comparison of words is choosing by their equality. -/
theorem select_eq (a b : BitVec 32) (u v : EReal) : Scalar.select (IntOp.cmpi CmpIPredicate.eq a b) u v = if a = b then u else v := by
  by_cases h : a = b
  · rw [if_pos h, show IntOp.cmpi CmpIPredicate.eq a b = 1#1 by simp [IntOp.cmpi, h]]
    rfl
  · rw [if_neg h, show IntOp.cmpi CmpIPredicate.eq a b = BitVec.ofBool (a == b) from rfl, beq_false_of_ne h]
    rfl

/-- The kernel's tokens scaled by the gate of the device's first expert. -/
theorem gated0_at (c : Dev nD) (a : Ins Ideal) (n : Fin 512) (d : Fin 256) :
    gated0 c a (ix2 n d) = scaled a.x a.r a.i n d (held c 0) := by
  unfold gated0 k0_pay5 k0_pay4
  pointwise
  rw [held_word0, masked_sum (fun j => k0_pay3 (F := Ideal) (k0_pay2 (F := Ideal) a.x a.r) (ix2 n j)), prob_at, select_eq]
  unfold k0_pay1
  pointwise
  rfl
/-- The kernel's tokens scaled by the gate of the device's second expert. -/
theorem gated1_at (c : Dev nD) (a : Ins Ideal) (n : Fin 512) (d : Fin 256) :
    gated1 c a (ix2 n d) = scaled a.x a.r a.i n d (held c 1) := by
  unfold gated1 k0_pay7 k0_pay4
  pointwise
  rw [held_word1, masked_sum (fun j => k0_pay3 (F := Ideal) (k0_pay2 (F := Ideal) a.x a.r) (ix2 n j)), prob_at, select_eq]
  unfold k0_pay1
  pointwise
  rfl

/-- Reading one of the two expert matrices at an entry. -/
theorem matK_at (k : Fin 2) (e : Vec Ideal S2x256x512 .bf16) (d : Fin 256) (h : Fin 512) :
    matK k e (ix3 (0 : Fin 1) d h) = e (ix3 k d h) := by
  unfold matK
  rw [ix3_eq_valueIdx k d h]
  rfl
/-- Reading a block with a leading axis of one. -/
theorem lift_at (w : Vec Ideal S128x512 .bf16) (i : Fin 128) (h : Fin 512) : lift w (ix3 (0 : Fin 1) i h) = w (ix2 i h) := by
  unfold lift
  rw [ix2_eq_valueIdx i h]
  rfl

/-- The first row block starts at row zero. -/
theorem row0 (i : Fin 128) : rowOf 0 i = (⟨i.val, Nat.lt_of_lt_of_le i.isLt (by decide)⟩ : Fin 512) := Fin.ext (by simp [rowOf])

/-- A block of partial products at an entry: the two inner products of the scaled tokens with the device's experts. -/
theorem part_dots (c : Dev nD) (a : Ins Ideal) (q : Fin 4) (i : Fin 128) (h : Fin 512) :
    part c a q (ix2 i h)
      = ((∑ d : Fin 256, gated0 c a (ix2 (rowOf q i) d) * a.e (ix3 (0 : Fin 2) d h))
        + ∑ d : Fin 256, gated1 c a (ix2 (rowOf q i) d) * a.e (ix3 (1 : Fin 2) d h) : EReal) := by
  match q with
  | 0 =>
    unfold part k0_pay9 k0_pay6 k0_pay8
    pointwise [matK_at]
    rw [row0]
  | 1 =>
    unfold part k0_pay12 k0_pay6 k0_pay8
    pointwise [matK_at]
    rfl
  | 2 =>
    unfold part k0_pay15 k0_pay6 k0_pay8
    pointwise [matK_at]
    rfl
  | 3 =>
    unfold part k0_pay18 k0_pay6 k0_pay8
    pointwise [matK_at]
    rfl

/-- The sum of four blocks at an entry. -/
theorem sumD_at (I : Dev nD → Ins Ideal) (q : Dev nD) (i : Fin 128) (h : Fin 512) :
    sumD I q (ix2 i h)
      = (blkA I 0 q (ix2 i h) + blkA I 1 q (ix2 i h) + blkA I 2 q (ix2 i h) + blkA I 3 q (ix2 i h) : EReal) := by
  unfold sumD k0_pay23 k0_pay22
  pointwise [lift_at]

/-- The reduced rows as sent hold the sum itself: a change of width keeps the value. -/
theorem redD_at (I : Dev nD → Ins Ideal) (q : Dev nD) (i : Fin 128) (h : Fin 512) :
    redD I q (ix2 i h) = sumD I q (ix2 i h) := by
  unfold redD k0_pay24
  pointwise
  rfl

/-- The shared expert's product at an entry. -/
theorem shared_at (a : Ins Ideal) (n h : Fin 512) : Reduce.shared a (ix2 n h) = Spec.shared a.x a.w n h := by
  unfold Reduce.shared k0_pay21 k0_pay1
  pointwise
  rfl

/-- A row block of a device's output at an entry: the shared expert's rows plus the sum of the four partial products, whether
    the sum is the device's own or one that it was sent. -/
theorem outB_at (I : Dev nD → Ins Ideal) (c s : Dev nD) (i : Fin 128) (h : Fin 512) :
    outB I c s (ix2 i h) = (Spec.shared (I c).x (I c).w (rowOf s i) h + sumD I s (ix2 i h) : EReal) := by
  unfold outB
  rw [← shared_at]
  by_cases hc : c = s
  · subst hc
    rw [if_pos rfl]
    match c with
    | 0 =>
      unfold sumD k0_pay25
      pointwise
      rw [row0]
    | 1 => unfold k0_pay27; pointwise; rfl
    | 2 => unfold k0_pay29; pointwise; rfl
    | 3 => unfold k0_pay31; pointwise; rfl
  · rw [if_neg hc, ← redD_at]
    match s with
    | 0 =>
      unfold k0_pay26
      pointwise [lift_at]
      rw [row0]
    | 1 => unfold k0_pay28; pointwise [lift_at]; rfl
    | 2 => unfold k0_pay30; pointwise [lift_at]; rfl
    | 3 => unfold k0_pay32; pointwise [lift_at]; rfl

section Whole

variable (I : Dev nD → Ins Ideal) (x : Tokens) (r : Router) (i : Routes) (e : Experts) (w : Shared)
  (hx : ∀ c, (I c).x = x) (hr : ∀ c, (I c).r = r) (hi : ∀ c, (I c).i = i) (hw : ∀ c, (I c).w = w)
  (he : ∀ c k d h, (I c).e (ix3 k d h) = e (ix3 (held c k) d h))
  (hp : ∀ n j, 0 ≤ prob x r n j ∧ prob x r n j ≠ ⊤)

include hp in
/-- The inner product of a scaled token with an expert's weights is what that expert adds. -/
theorem scaled_term (n h : Fin 512) (j : Fin 8) :
    ∑ d : Fin 256, scaled x r i n d j * e (ix3 j d h) = term x r i e n h j := by
  unfold scaled term
  by_cases hj : i (ix2 n (0 : Fin 1)) = BitVec.ofNat 32 j.val
  · simp only [if_pos hj]
    exact scaled_dot (hp n j).1 (hp n j).2 (fun d => x (ix2 n d)) (fun d => e (ix3 j d h))
  · simp only [if_neg hj, zero_mul, Finset.sum_const_zero]

include hx hr hi he hp in
/-- A block of partial products at an entry is what the device's two experts add there. -/
theorem part_at (c : Dev nD) (q : Fin 4) (k : Fin 128) (h : Fin 512) :
    blkA I c q (ix2 k h) = (term x r i e (rowOf q k) h (held c 0) + term x r i e (rowOf q k) h (held c 1) : EReal) := by
  unfold blkA
  rw [part_dots]
  simp only [gated0_at, gated1_at, he, hx, hr, hi]
  rw [scaled_term x r i e hp, scaled_term x r i e hp]

include hx hr hi hw he hp in
/-- Every device's output is the specification's, entry by entry. -/
theorem outV_at (c : Dev nD) (n h : Fin 512) : outV I c (ix2 n h) = out x r i e w n h := by
  obtain ⟨q, k, rfl⟩ : ∃ (q : Fin 4) (k : Fin 128), n = rowOf q k :=
    ⟨⟨n.val / 128, by omega⟩, ⟨n.val % 128, by omega⟩, Fin.ext (by simp only [rowOf]; omega)⟩
  unfold outV
  rw [ix2_eq_valueIdx, blocks_at, ← ix2_eq_valueIdx, outB_at, sumD_at, hx, hw]
  simp only [part_at I x r i e hx hr hi he hp]
  unfold out routed
  rw [Fin.sum_univ_eight]
  simp only [add_assoc]
  rfl

end Whole

end Cert.KernelIdeal.Value

end
-- ==== Proof.Value.Reference.lean ====
/-
# The reference's result at an entry

The reference's two gathers read at an entry, and with them its result: the shared expert's product plus the gated product
of the expert that the token is routed to.
-/
module
public import proofs.«01_k».proof.Proof.Value.Spec
public import proofs.«01_k».proof.Proof.Gen.ReferenceIdeal.Run
public import Idealize.ShloMosaic.Lib.Pointwise
public import proofs.«01_k».proof.Proof.Value.Maths
@[expose] public section
set_option maxRecDepth 16384
noncomputable section
namespace Cert.ReferenceIdeal.Value
open Idealize.ShloMosaic Cert.Spec Cert.Maths Cert.ReferenceIdeal Cert.ReferenceIdeal.Gen Idealize.SL.Sem

/-- The dimension numbers of the gather that takes a token's softmax at its expert. -/
abbrev gateDims := gather_S512x8_S512x1x1_S512x1_n_1_0_0_1_2_11
/-- The dimension numbers of the gather that takes a token's product with its expert. -/
abbrev mineDims := gather_S512x8x512_S512x1x1_S512x1x512_2_1_0_0_1_2_11512

/-- Taking a token's softmax along the experts at an index word reads it at that word, clamped to the eight experts. -/
theorem gate_at {α : Type} (p : S512x8.Idx → α) (s : IVec S512x1x1 32) (n : Fin 512) (w : BitVec 32)
    (hw : s (ix3 n (0 : Fin 1) (0 : Fin 1)) = w) :
    Host.gather gather_S512x8_S512x1x1_S512x1_n_1_0_0_1_2_11 p s (ix2 n (0 : Fin 1))
      = p (ix2 n ⟨min w.toInt.toNat 7, by omega⟩) := by
  subst hw
  unfold Host.gather
  congr 1
  funext a
  refine Fin.ext ?_
  show gateDims.start _ s a + gateDims.batchCoord _ a + gateDims.offCoord _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    refine (dif_pos (List.mem_singleton.mpr rfl)).trans ?_
    have hsi : gateDims.siIdx (ix2 n (0 : Fin 1)) ⟨List.idxOf (1 : Fin 2) gateDims.startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- Taking a token's product along the experts at an index word reads it at that word, clamped to the eight experts. -/
theorem mine_at {α : Type} (p : S512x8x512.Idx → α) (s : IVec S512x1x1 32) (n : Fin 512) (h : Fin 512) (w : BitVec 32)
    (hw : s (ix3 n (0 : Fin 1) (0 : Fin 1)) = w) :
    Host.gather gather_S512x8x512_S512x1x1_S512x1x512_2_1_0_0_1_2_11512 p s (ix3 n (0 : Fin 1) h)
      = p (ix3 n ⟨min w.toInt.toNat 7, by omega⟩ h) := by
  subst hw
  unfold Host.gather
  congr 1
  funext a
  refine Fin.ext ?_
  show mineDims.start _ s a + mineDims.batchCoord _ a + mineDims.offCoord _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  · rw [GatherDims.batchCoord_eq_zero _ _ _ (show ¬ (1 : Fin 3) ∈ [(0 : Fin 3)] by decide),
      GatherDims.offCoord_eq_zero _ _ _ (fun h => ((GatherDims.mem_sKept _ _).mp h).1 (List.mem_singleton.mpr rfl))]
    simp only [Nat.add_zero]
    refine (dif_pos (List.mem_singleton.mpr rfl)).trans ?_
    have hsi : mineDims.siIdx (ix3 n (0 : Fin 1) h) ⟨List.idxOf (1 : Fin 3) mineDims.startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl
  · rw [GatherDims.batchCoord_eq_zero _ _ _ (show ¬ (2 : Fin 3) ∈ [(0 : Fin 3)] by decide)]
    have hs : mineDims.start (ix3 n (0 : Fin 1) h) s 2 = 0 := by
      unfold GatherDims.start
      exact dif_neg (show ¬ (2 : Fin 3) ∈ [(1 : Fin 3)] by decide)
    rw [hs]
    simp only [Nat.zero_add]
    rfl

set_option maxHeartbeats 1000000 in
/-- The reference's result, entry by entry, is the specification's. -/
theorem out_at (m : (ℓ : Loc nD τ sig) → Buf (Elt Ideal) ℓ) (n h : Fin 512) :
    (Value.res_out0 m 0 : S512x512.Idx → EReal) (ix2 n h)
      = out (m ((Dev.tc 0).loc main_arg0)) (m ((Dev.tc 0).loc main_arg1)) (m ((Dev.tc 0).loc main_arg2))
          (m ((Dev.tc 0).loc main_arg3)) (m ((Dev.tc 0).loc main_arg4)) n h := by
  unfold Value.res_out0 Value.res_main_v30
  simp only [id_eq]
  pointwise
  rw [gate_at (w := slot (m ((Dev.tc 0).loc main_arg2) (ix2 n 0))), mine_at (w := slot (m ((Dev.tc 0).loc main_arg2) (ix2 n 0)))]
  · unfold out shared routed
    simp only [term]
    rw [← select_named]
    generalize (⟨min (slot _).toInt.toNat 7, _⟩ : Fin 8) = k
    pointwise
    rw [ofBits_neg_inf]
    rfl
  · pointwise
    rfl
  · pointwise
    rfl
end Cert.ReferenceIdeal.Value
end
-- ==== Proof.Value.Finite.lean ====
/-
# What the precondition says

The precondition's predicate is a conjunction of two "all entries" of a comparison with infinity. Read back, it says that
no token entry and no router weight is an infinity; with that the softmax is real and not negative.
-/
module

public import proofs.«01_k».proof.Pre_finite_KernelIdeal
public import proofs.«01_k».proof.Pre_finite_ReferenceIdeal
public import proofs.«01_k».proof.Proof.Value.Spec
public import proofs.«01_k».proof.Proof.Value.Maths
public import Idealize.ShloMosaic.Lib.ReduceAll
public import Idealize.ShloMosaic.Lib.Pointwise

@[expose] public section

set_option maxRecDepth 16384

noncomputable section

namespace Cert.Finite

open Idealize.ShloMosaic Cert.Spec Cert.Maths
open scoped BigOperators

/-- The shape relations that the predicate over one device's arrays states. -/
theorem kernelFacts : Cert.Pre_finite_KernelIdeal.Facts where
  bcast_S_S512x256 := by decide
  reducesTo_S512x256_S_d0_1 := by decide
  h_S_ := by decide
  bcast_S_S256x8 := by decide
  reducesTo_S256x8_S_d0_1 := by decide

/-- The shape relations that the predicate over the whole arrays states. -/
theorem referenceFacts : Cert.Pre_finite_ReferenceIdeal.Facts where
  bcast_S_S512x256 := by decide
  reducesTo_S512x256_S_d0_1 := by decide
  h_S_ := by decide
  bcast_S_S256x8 := by decide
  reducesTo_S256x8_S_d0_1 := by decide

/-- The bits of infinity at half width. -/
theorem ofBits_inf : Ideal.ofBits FTy.bf16 0x7F80#16 = ⊤ := by simp [Ideal.ofBits, Ideal.ieee]

/-- A comparison of an absolute value with infinity that came out true: the number is not an infinity. -/
theorem finite_of_cmp {x : EReal}
    (h : FloatOps.cmpf (F := Ideal) (φ := .bf16) CmpFPredicate.olt (FloatOps.absf (F := Ideal) (φ := .bf16) x) (Ideal.ofBits FTy.bf16 0x7F80#16) = 1#1) :
    x ≠ ⊤ ∧ x ≠ ⊥ := by
  rw [ofBits_inf] at h
  refine finite_of_abs_lt ?_
  by_contra hn
  have h0 : BitVec.ofBool (decide (max x (-x) < (⊤ : EReal))) = 1#1 := h
  rw [decide_eq_false hn] at h0
  exact absurd h0 (by decide)

/-- Where the predicate holds, no token entry and no router weight is an infinity. -/
theorem of_pre [Cert.Pre_finite_KernelIdeal.Facts] (x : Tokens) (r : Router) (i : Routes) (e : (⟨3, ![2, 256, 512]⟩ : Shape).Idx → EReal) (w : Shared)
    (h : Cert.Pre_finite_KernelIdeal.fn (F := Ideal) x r i e w = fun _ => 1#1) :
    (∀ n d, x (ix2 n d) ≠ ⊤ ∧ x (ix2 n d) ≠ ⊥) ∧ ∀ d j, r (ix2 d j) ≠ ⊤ ∧ r (ix2 d j) ≠ ⊥ := by
  have h0 := congrFun h ix0
  unfold Cert.Pre_finite_KernelIdeal.fn at h0
  have h1 := IntOp.andi_eq_one.mp h0
  haveI : Subsingleton Cert.Pre_finite_KernelIdeal.S_.Idx := ⟨fun a b => funext fun q => q.elim0⟩
  refine ⟨fun n d => ?_, fun d j => ?_⟩
  · exact finite_of_cmp (Host.reduce_andi_all _ _ _ _ _ h1.1 (ix2 n d))
  · exact finite_of_cmp (Host.reduce_andi_all _ _ _ _ _ h1.2 (ix2 d j))

/-- With finite tokens and router weights the softmax is real and not negative. -/
theorem prob_real (x : Tokens) (r : Router) (hx : ∀ n d, x (ix2 n d) ≠ ⊤ ∧ x (ix2 n d) ≠ ⊥)
    (hr : ∀ d j, r (ix2 d j) ≠ ⊤ ∧ r (ix2 d j) ≠ ⊥) (n : Fin 512) (j : Fin 8) : 0 ≤ prob x r n j ∧ prob x r n j ≠ ⊤ :=
  softmax_real (N := 7) (score x r n) (fun j => real_dot _ _ (fun d => hx n d) (fun d => hr d j)) j

end Cert.Finite

end
-- ==== Proof.Algebraic.lean ====
/-
# The value claim

With finite tokens and router weights, every device's output at the ideal instance is the reference's result: both are the
specification's array, entry by entry.
-/
module

public import proofs.«01_k».proof.Proof.Frames
public import proofs.«01_k».proof.Proof.Value.Kernel
public import proofs.«01_k».proof.Proof.Value.Reference
public import proofs.«01_k».proof.Proof.Value.Finite

@[expose] public section

set_option maxRecDepth 16384

noncomputable section

namespace Cert

open Idealize.ShloMosaic Idealize.ShloMosaic.TcCoe Idealize.SL.Sem Cert.Spec

section Inputs

variable (m : (ℓ : Loc KernelIdeal.nD KernelIdeal.τ KernelIdeal.sig) → Buf (Elt Ideal) ℓ) (ρ : Dev KernelIdeal.nD → PrngReg) (c : Dev KernelIdeal.nD)

/-- The body's windows hold the argument arrays whole. -/
theorem ins_x : (KernelIdeal.Reduce.ins m ρ c).x = m ((c : Thread KernelIdeal.nD KernelIdeal.τ).loc KernelIdeal.main_arg0) :=
  funext fun y => congrArg (m ((c : Thread KernelIdeal.nD KernelIdeal.τ).loc KernelIdeal.main_arg0))
    (funext fun a => Fin.ext (Pipeline.Window.rect_emb_val_of_index_zero KernelIdeal.win0_0 (0 : Fin 1) a rfl y))
theorem ins_r : (KernelIdeal.Reduce.ins m ρ c).r = m ((c : Thread KernelIdeal.nD KernelIdeal.τ).loc KernelIdeal.main_arg1) :=
  funext fun y => congrArg (m ((c : Thread KernelIdeal.nD KernelIdeal.τ).loc KernelIdeal.main_arg1))
    (funext fun a => Fin.ext (Pipeline.Window.rect_emb_val_of_index_zero KernelIdeal.win0_1 (0 : Fin 1) a rfl y))
theorem ins_i : (KernelIdeal.Reduce.ins m ρ c).i = m ((c : Thread KernelIdeal.nD KernelIdeal.τ).loc KernelIdeal.main_arg2) :=
  funext fun y => congrArg (m ((c : Thread KernelIdeal.nD KernelIdeal.τ).loc KernelIdeal.main_arg2))
    (funext fun a => Fin.ext (Pipeline.Window.rect_emb_val_of_index_zero KernelIdeal.win0_2 (0 : Fin 1) a rfl y))
theorem ins_e : (KernelIdeal.Reduce.ins m ρ c).e = m ((c : Thread KernelIdeal.nD KernelIdeal.τ).loc KernelIdeal.main_arg3) :=
  funext fun y => congrArg (m ((c : Thread KernelIdeal.nD KernelIdeal.τ).loc KernelIdeal.main_arg3))
    (funext fun a => Fin.ext (Pipeline.Window.rect_emb_val_of_index_zero KernelIdeal.win0_3 (0 : Fin 1) a rfl y))
theorem ins_w : (KernelIdeal.Reduce.ins m ρ c).w = m ((c : Thread KernelIdeal.nD KernelIdeal.τ).loc KernelIdeal.main_arg4) :=
  funext fun y => congrArg (m ((c : Thread KernelIdeal.nD KernelIdeal.τ).loc KernelIdeal.main_arg4))
    (funext fun a => Fin.ext (Pipeline.Window.rect_emb_val_of_index_zero KernelIdeal.win0_4 (0 : Fin 1) a rfl y))

end Inputs

/-- A device's block of the experts' weights holds the two experts that the device holds. -/
theorem block_at (e : Experts) (c : Dev KernelIdeal.nD) (k : Fin 2) (d : Fin 256) (h : Fin 512) :
    Layout.block ⟨3, ![2, 256, 512]⟩ ⟨3, ![8, 256, 512]⟩ 0 4 c e (by decide) (ix3 k d h) = e (ix3 (KernelIdeal.Value.held c k) d h) := by
  rw [Layout.block_apply]
  congr 1
  funext a
  refine Fin.ext ?_
  rw [Layout.Tiles.idx_val]
  match a with
  | ⟨0, _⟩ =>
    show c.val * 2 + k.val = 2 * c.val + k.val
    omega
  | ⟨1, _⟩ => rfl
  | ⟨2, _⟩ => rfl

/-- The kernel and the reference agree at the ideal instance wherever the tokens and the router's weights are finite. -/
theorem algebraic : algebraic_KernelIdeal_ReferenceIdeal_pre_finite_KernelIdeal (hKernelIdeal := KernelIdeal.Gen.facts)
    (hReferenceIdeal := ReferenceIdeal.Gen.facts) (hPre_finite_KernelIdeal := Finite.kernelFacts) := by
  haveI := Finite.kernelFacts
  intro m g m' g' hpre hin
  have hfin := Finite.of_pre _ _ _ _ _ (hpre 0)
  rw [(hin 0).1, (hin 0).2.1] at hfin
  refine ⟨ReferenceIdeal.Value.res_out0 m' 0, θ_run_mono (KernelIdeal.Reduce.run_main m g) fun r h c => ⟨(h.1 c).1.trans ?_, (h.1 c).2⟩,
    θ_run_mono (reference_run m' g') fun r h => h.1 0⟩
  funext y
  obtain ⟨n, k, rfl⟩ : ∃ (n k : Fin 512), y = ix2 n k := ⟨y 0, y 1, (ix2_eta y).symm⟩
  refine Eq.trans ?_ (ReferenceIdeal.Value.out_at m' n k).symm
  exact KernelIdeal.Value.outV_at (KernelIdeal.Reduce.ins m g) _ _ _ _ _
    (fun c => (ins_x m g c).trans (hin c).1) (fun c => (ins_r m g c).trans (hin c).2.1) (fun c => (ins_i m g c).trans (hin c).2.2.1)
    (fun c => (ins_w m g c).trans (hin c).2.2.2.2)
    (fun c j d h => (congrFun ((ins_e m g c).trans (hin c).2.2.2.1) (ix3 j d h)).trans (block_at _ c j d h))
    (Finite.prob_real _ _ hfin.1 hfin.2) c n k

end Cert

end
-- ==== Proof.lean ====
/-
# The claim

The frames of the kernel, of its ideal form and of the reference, that the kernel and its ideal form are printed the
same, and that the kernel computes what the reference computes.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- The six claims that stand on runs, with the shape relations that the programs and the precondition state, and the one
    on the printing. The two frames under the precondition are the unconditional ones, weakened. -/
theorem claim : Cert.Claim := ⟨Cert.Kernel.Gen.facts, Cert.KernelIdeal.Gen.facts, Cert.ReferenceIdeal.Gen.facts,
  Cert.Finite.kernelFacts, Cert.Finite.referenceFacts,
  frame_kernel, frame_kernelIdeal, fun m g _ => frame_kernelIdeal m g True.intro,
  frame_referenceIdeal, fun m g _ => frame_referenceIdeal m g True.intro, True.intro, algebraic⟩

end Cert.Proof

end
